-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1x10000x128 : Shape := ⟨3, ![1, 10000, 128]⟩
abbrev S1x10000x10000 : Shape := ⟨3, ![1, 10000, 10000]⟩
abbrev S_ : Shape := ⟨0, ![]⟩
abbrev S1x10000 : Shape := ⟨2, ![1, 10000]⟩
abbrev S64x128 : Shape := ⟨2, ![64, 128]⟩
abbrev S64 : Shape := ⟨1, ![64]⟩
abbrev S1x64x64 : Shape := ⟨3, ![1, 64, 64]⟩
abbrev S1 : Shape := ⟨1, ![1]⟩

class Facts : Prop where
  bcast_S_S1x10000x128 : S_.BroadcastsInDim S1x10000x128 (![] : Fin 0 → Fin S1x10000x128.rank)
  reducesTo_S1x10000x128_S_d0_1_2 : S1x10000x128.ReducesTo [0, 1, 2] S_
  h_S_ : 0 < S_.numel
  bcast_S_S1x10000x10000 : S_.BroadcastsInDim S1x10000x10000 (![] : Fin 0 → Fin S1x10000x10000.rank)
  reducesTo_S1x10000x10000_S_d0_1_2 : S1x10000x10000.ReducesTo [0, 1, 2] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64x64 : S_.BroadcastsInDim S1x64x64 (![] : Fin 0 → Fin S1x64x64.rank)
  reducesTo_S1x64x64_S_d0_1_2 : S1x64x64.ReducesTo [0, 1, 2] S_

variable [Facts]

def fn_part1 {F : FTy → Type} [FloatOps F] (main_arg8 : FVec F S64 .f32) (main_arg9 : FVec F S_ .f32) (main_arg10 : FVec F S1x64x64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64 .f32 := Host.absf main_arg8
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S_ .f32 := Host.absf main_arg9
  let main_cst_8 : FVec F S_ .f32 := constant S_ .f32 0x7F800000#32
  let main_v25 : IVec S_ 1 := cmpf .olt main_v24 main_cst_8
  let main_v26 : IVec S_ 1 := andi main_v23 main_v25
  let main_v27 : FVec F S1x64x64 .f32 := Host.absf main_arg10
  let main_cst_9 : FVec F S_ .f32 := constant S_ .f32 0x7F800000#32
  let main_v28 : FVec F S1x64x64 .f32 := broadcastInDim S1x64x64 ![] bcast_S_S1x64x64 main_cst_9
  let main_v29 : IVec S1x64x64 1 := cmpf .olt main_v27 main_v28
  let main_c_10 : IVec S_ 1 := constantI S_ 1 1#1
  let main_v30 : IVec S_ 1 := (fun x v => Host.reduce IntOp.andi x v reducesTo_S1x64x64_S_d0_1_2 h_S_) main_v29 main_c_10
  let main_v31 : IVec S_ 1 := andi main_v26 main_v30
  main_v31

def fn {F : FTy → Type} [FloatOps F] (main_arg0 : FVec F S1x10000x128 .f32) (main_arg1 : FVec F S1x10000x128 .f32) (main_arg2 : FVec F S1x10000x10000 .f32) (main_arg3 : IVec S_ 32) (main_arg4 : FVec F S1x10000 .f32) (main_arg5 : FVec F S1x10000 .f32) (main_arg6 : FVec F S1x10000 .f32) (main_arg7 : FVec F S64x128 .f32) (main_arg8 : FVec F S64 .f32) (main_arg9 : FVec F S_ .f32) (main_arg10 : FVec F S1x64x64 .f32) (main_arg11 : FVec F S1 .f32) : IVec S_ 1 :=
  let main_v0 : FVec F S1x10000x128 .f32 := Host.absf main_arg0
  let main_cst : FVec F S_ .f32 := constant S_ .f32 0x7F800000#32
  let main_v1 : FVec F S1x10000x128 .f32 := broadcastInDim S1x10000x128 ![] bcast_S_S1x10000x128 main_cst
  let main_v2 : IVec S1x10000x128 1 := cmpf .olt main_v0 main_v1
  let main_c : IVec S_ 1 := constantI S_ 1 1#1
  let main_v3 : IVec S_ 1 := (fun x v => Host.reduce IntOp.andi x v reducesTo_S1x10000x128_S_d0_1_2 h_S_) main_v2 main_c
  let main_v4 : FVec F S1x10000x128 .f32 := Host.absf main_arg1
  let main_cst_0 : FVec F S_ .f32 := constant S_ .f32 0x7F800000#32
  let main_v5 : FVec F S1x10000x128 .f32 := broadcastInDim S1x10000x128 ![] bcast_S_S1x10000x128 main_cst_0
  let main_v6 : IVec S1x10000x128 1 := cmpf .olt main_v4 main_v5
  let main_c_1 : IVec S_ 1 := constantI S_ 1 1#1
  let main_v7 : IVec S_ 1 := (fun x v => Host.reduce IntOp.andi x v reducesTo_S1x10000x128_S_d0_1_2 h_S_) main_v6 main_c_1
  let main_v8 : IVec S_ 1 := andi main_v3 main_v7
  let main_v9 : FVec F S1x10000x10000 .f32 := Host.absf main_arg2
  let main_cst_2 : FVec F S_ .f32 := constant S_ .f32 0x7F800000#32
  let main_v10 : FVec F S1x10000x10000 .f32 := broadcastInDim S1x10000x10000 ![] bcast_S_S1x10000x10000 main_cst_2
  let main_v11 : IVec S1x10000x10000 1 := cmpf .olt main_v9 main_v10
  let main_c_3 : IVec S_ 1 := constantI S_ 1 1#1
  let main_v12 : IVec S_ 1 := (fun x v => Host.reduce IntOp.andi x v reducesTo_S1x10000x10000_S_d0_1_2 h_S_) main_v11 main_c_3
  let main_v13 : IVec S_ 1 := andi main_v8 main_v12
  let main_v14 : FVec F S64x128 .f32 := Host.absf main_arg7
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg8 main_arg9 main_arg10 main_v13 main_v16
-- ==== Kernel.lean ====
abbrev S1x10000x128 : Shape := ⟨3, ![1, 10000, 128]⟩
abbrev S1x10000x10000 : Shape := ⟨3, ![1, 10000, 10000]⟩
abbrev S_ : Shape := ⟨0, ![]⟩
abbrev S1x10000 : Shape := ⟨2, ![1, 10000]⟩
abbrev S64x128 : Shape := ⟨2, ![64, 128]⟩
abbrev S64 : Shape := ⟨1, ![64]⟩
abbrev S1x64x64 : Shape := ⟨3, ![1, 64, 64]⟩
abbrev S1 : Shape := ⟨1, ![1]⟩
abbrev S10000x128 : Shape := ⟨2, ![10000, 128]⟩
abbrev S10000x10000 : Shape := ⟨2, ![10000, 10000]⟩
abbrev S1x64 : Shape := ⟨2, ![1, 64]⟩
abbrev S1x1 : Shape := ⟨2, ![1, 1]⟩
abbrev S64x64 : Shape := ⟨2, ![64, 64]⟩
abbrev S10000x2 : Shape := ⟨2, ![10000, 2]⟩
abbrev S400x10000 : Shape := ⟨2, ![400, 10000]⟩
abbrev S10000x64 : Shape := ⟨2, ![10000, 64]⟩
abbrev S400x128 : Shape := ⟨2, ![400, 128]⟩
abbrev S400x64 : Shape := ⟨2, ![400, 64]⟩
abbrev S8x10000 : Shape := ⟨2, ![8, 10000]⟩
abbrev S8x64 : Shape := ⟨2, ![8, 64]⟩
abbrev S1x1x10000 : Shape := ⟨3, ![1, 1, 10000]⟩
abbrev S1x1x1 : Shape := ⟨3, ![1, 1, 1]⟩
abbrev S64x1 : Shape := ⟨2, ![64, 1]⟩
abbrev S128x1 : Shape := ⟨2, ![128, 1]⟩
abbrev S128x2 : Shape := ⟨2, ![128, 2]⟩
abbrev S2x10000 : Shape := ⟨2, ![2, 10000]⟩
abbrev S1x20000 : Shape := ⟨2, ![1, 20000]⟩

abbrev nBuf : Space → Nat
  | .hbm => 24
  | .vmem => 13
  | .smem => 0
  | _ => 0

abbrev bufTy : (tb : Table) → Fin (tcTables nBuf tb) → BufTy
  | .hbm, ⟨0, _⟩ => ⟨S1x10000x128, .f32⟩
  | .hbm, ⟨1, _⟩ => ⟨S1x10000x128, .f32⟩
  | .hbm, ⟨2, _⟩ => ⟨S1x10000x10000, .f32⟩
  | .hbm, ⟨3, _⟩ => ⟨S_, .i32⟩
  | .hbm, ⟨4, _⟩ => ⟨S1x10000, .f32⟩
  | .hbm, ⟨5, _⟩ => ⟨S1x10000, .f32⟩
  | .hbm, ⟨6, _⟩ => ⟨S1x10000, .f32⟩
  | .hbm, ⟨7, _⟩ => ⟨S64x128, .f32⟩
  | .hbm, ⟨8, _⟩ => ⟨S64, .f32⟩
  | .hbm, ⟨9, _⟩ => ⟨S_, .f32⟩
  | .hbm, ⟨10, _⟩ => ⟨S1x64x64, .f32⟩
  | .hbm, ⟨11, _⟩ => ⟨S1, .f32⟩
  | .hbm, ⟨12, _⟩ => ⟨S10000x128, .f32⟩
  | .hbm, ⟨13, _⟩ => ⟨S10000x128, .f32⟩
  | .hbm, ⟨14, _⟩ => ⟨S10000x10000, .f32⟩
  | .hbm, ⟨15, _⟩ => ⟨S1x64, .f32⟩
  | .hbm, ⟨16, _⟩ => ⟨S1x1, .f32⟩
  | .hbm, ⟨17, _⟩ => ⟨S1x1, .f32⟩
  | .hbm, ⟨18, _⟩ => ⟨S64x64, .f32⟩
  | .hbm, ⟨19, _⟩ => ⟨S10000x2, .f32⟩
  | .hbm, ⟨20, _⟩ => ⟨S2x10000, .f32⟩
  | .hbm, ⟨21, _⟩ => ⟨S1x20000, .f32⟩
  | .hbm, ⟨22, _⟩ => ⟨S1x20000, .f32⟩
  | .hbm, ⟨23, _⟩ => ⟨S1x20000, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S10000x128, .f32⟩
  | .local _ .vmem, ⟨4, _⟩ => ⟨S64x128, .f32⟩
  | .local _ .vmem, ⟨5, _⟩ => ⟨S1x64, .f32⟩
  | .local _ .vmem, ⟨6, _⟩ => ⟨S1x1, .f32⟩
  | .local _ .vmem, ⟨7, _⟩ => ⟨S1x10000, .f32⟩
  | .local _ .vmem, ⟨8, _⟩ => ⟨S64x64, .f32⟩
  | .local _ .vmem, ⟨9, _⟩ => ⟨S1x1, .f32⟩
  | .local _ .vmem, ⟨10, _⟩ => ⟨S10000x2, .f32⟩
  | .local _ .vmem, ⟨11, _⟩ => ⟨S10000x128, .f32⟩
  | .local _ .vmem, ⟨12, _⟩ => ⟨S10000x128, .f32⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v22 : BitVec 32 := Scalar.muli arg0 c400_i32
  let v23 : Index := Scalar.indexCast v22
  let c0_9 : Index := 0#32
  ![v23.toNat, 0]
def k0_off2 (i : grid0.Coords) : Fin 2 → Nat :=
  let arg0 : BitVec 32 := BitVec.ofNat 32 (i 0).val
  let c400_i32_11 : BitVec 32 := 400#32
  let v32 : BitVec 32 := Scalar.muli arg0 c400_i32_11
  let v33 : Index := Scalar.indexCast v32
  let c64 : Index := 64#32
  ![v33.toNat, 64]
def k0_cond2 (i : grid0.Coords) : BitVec 1 :=
  let arg0 : BitVec 32 := BitVec.ofNat 32 (i 0).val
  let c24_i32 : BitVec 32 := 24#32
  let v37 : BitVec 1 := Scalar.cmpi .eq arg0 c24_i32
  let v38 : BitVec 32 := Scalar.extui v37
  let c0_i32_12 : BitVec 32 := 0#32
  let v39 : BitVec 1 := Scalar.cmpi .ne v38 c0_i32_12
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x10000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S10000x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S1x10000x128 : Shape := ⟨3, ![1, 10000, 128]⟩
abbrev S1x10000x10000 : Shape := ⟨3, ![1, 10000, 10000]⟩
abbrev S_ : Shape := ⟨0, ![]⟩
abbrev S1x10000 : Shape := ⟨2, ![1, 10000]⟩
abbrev S64x128 : Shape := ⟨2, ![64, 128]⟩
abbrev S64 : Shape := ⟨1, ![64]⟩
abbrev S1x64x64 : Shape := ⟨3, ![1, 64, 64]⟩
abbrev S1 : Shape := ⟨1, ![1]⟩
abbrev S1x10000x64 : Shape := ⟨3, ![1, 10000, 64]⟩
abbrev S1x1x64 : Shape := ⟨3, ![1, 1, 64]⟩
abbrev S1x10000x1 : Shape := ⟨3, ![1, 10000, 1]⟩
abbrev S1x64 : Shape := ⟨2, ![1, 64]⟩
abbrev S64x64 : Shape := ⟨2, ![64, 64]⟩
abbrev S64x1x10000 : Shape := ⟨3, ![64, 1, 10000]⟩
abbrev S1x20000 : Shape := ⟨2, ![1, 20000]⟩

abbrev nBuf : Space → Nat
  | .hbm => 68
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S1x10000x128, .f32⟩
  | .hbm, ⟨2, _⟩ => ⟨S1x10000x10000, .f32⟩
  | .hbm, ⟨3, _⟩ => ⟨S_, .i32⟩
  | .hbm, ⟨4, _⟩ => ⟨S1x10000, .f32⟩
  | .hbm, ⟨5, _⟩ => ⟨S1x10000, .f32⟩
  | .hbm, ⟨6, _⟩ => ⟨S1x10000, .f32⟩
  | .hbm, ⟨7, _⟩ => ⟨S64x128, .f32⟩
  | .hbm, ⟨8, _⟩ => ⟨S64, .f32⟩
  | .hbm, ⟨9, _⟩ => ⟨S_, .f32⟩
  | .hbm, ⟨10, _⟩ => ⟨S1x64x64, .f32⟩
  | .hbm, ⟨11, _⟩ => ⟨S1, .f32⟩
  | .hbm, ⟨12, _⟩ => ⟨S1x10000x64, .f32⟩
  | .hbm, ⟨13, _⟩ => ⟨S1x10000x64, .f32⟩
  | .hbm, ⟨14, _⟩ => ⟨S1x1x64, .f32⟩
  | .hbm, ⟨15, _⟩ => ⟨S1x10000x64, .f32⟩
  | .hbm, ⟨16, _⟩ => ⟨S1x10000x64, .f32⟩
  | .hbm, ⟨17, _⟩ => ⟨S_, .f32⟩
  | .hbm, ⟨18, _⟩ => ⟨S1x10000x64, .f32⟩
  | .hbm, ⟨19, _⟩ => ⟨S1x10000x64, .i1⟩
  | .hbm, ⟨20, _⟩ => ⟨S1x10000x64, .f32⟩
  | .hbm, ⟨21, _⟩ => ⟨S1x10000x64, .f32⟩
  | .hbm, ⟨22, _⟩ => ⟨S1x10000x64, .f32⟩
  | .hbm, ⟨23, _⟩ => ⟨S1x10000x1, .f32⟩
  | .hbm, ⟨24, _⟩ => ⟨S1x10000x64, .f32⟩
  | .hbm, ⟨25, _⟩ => ⟨S1x10000x64, .f32⟩
  | .hbm, ⟨26, _⟩ => ⟨S_, .f32⟩
  | .hbm, ⟨27, _⟩ => ⟨S1x64, .f32⟩
  | .hbm, ⟨28, _⟩ => ⟨S_, .f32⟩
  | .hbm, ⟨29, _⟩ => ⟨S_, .f32⟩
  | .hbm, ⟨30, _⟩ => ⟨S1x64, .f32⟩
  | .hbm, ⟨31, _⟩ => ⟨S1x64, .f32⟩
  | .hbm, ⟨32, _⟩ => ⟨S1x64, .f32⟩
  | .hbm, ⟨33, _⟩ => ⟨S1x64, .f32⟩
  | .hbm, ⟨34, _⟩ => ⟨S_, .f32⟩
  | .hbm, ⟨35, _⟩ => ⟨S1x64, .f32⟩
  | .hbm, ⟨36, _⟩ => ⟨S1x64, .f32⟩
  | .hbm, ⟨37, _⟩ => ⟨S_, .f32⟩
  | .hbm, ⟨38, _⟩ => ⟨S1x64, .f32⟩
  | .hbm, ⟨39, _⟩ => ⟨S1x64, .f32⟩
  | .hbm, ⟨40, _⟩ => ⟨S1x10000x64, .f32⟩
  | .hbm, ⟨41, _⟩ => ⟨S1x10000x64, .f32⟩
  | .hbm, ⟨42, _⟩ => ⟨S1x1x64, .f32⟩
  | .hbm, ⟨43, _⟩ => ⟨S1x10000x64, .f32⟩
  | .hbm, ⟨44, _⟩ => ⟨S1x10000x64, .f32⟩
  | .hbm, ⟨45, _⟩ => ⟨S_, .f32⟩
  | .hbm, ⟨46, _⟩ => ⟨S1x10000x64, .f32⟩
  | .hbm, ⟨47, _⟩ => ⟨S1x10000x64, .i1⟩
  | .hbm, ⟨48, _⟩ => ⟨S1x10000x64, .f32⟩
  | .hbm, ⟨49, _⟩ => ⟨S1x10000x64, .f32⟩
  | .hbm, ⟨50, _⟩ => ⟨S1x10000x64, .f32⟩
  | .hbm, ⟨51, _⟩ => ⟨S1x1x64, .f32⟩
  | .hbm, ⟨52, _⟩ => ⟨S1x10000x64, .f32⟩
  | .hbm, ⟨53, _⟩ => ⟨S64x64, .f32⟩
  | .hbm, ⟨54, _⟩ => ⟨S64x1x10000, .f32⟩
  | .hbm, ⟨55, _⟩ => ⟨S1x10000, .f32⟩
  | .hbm, ⟨56, _⟩ => ⟨S_, .f32⟩
  | .hbm, ⟨57, _⟩ => ⟨S1x10000, .f32⟩
  | .hbm, ⟨58, _⟩ => ⟨S1x10000, .f32⟩
  | .hbm, ⟨59, _⟩ => ⟨S64x64, .f32⟩
  | .hbm, ⟨60, _⟩ => ⟨S64x1x10000, .f32⟩
  | .hbm, ⟨61, _⟩ => ⟨S1x10000, .f32⟩
  | .hbm, ⟨62, _⟩ => ⟨S_, .f32⟩
  | .hbm, ⟨63, _⟩ => ⟨S1x10000, .f32⟩
  | .hbm, ⟨64, _⟩ => ⟨S1x10000, .f32⟩
  | .hbm, ⟨65, _⟩ => ⟨S1x10000, .f32⟩
  | .hbm, ⟨66, _⟩ => ⟨S1x10000, .f32⟩
  | .hbm, ⟨67, _⟩ => ⟨S1x20000, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]
-- ==== Proof.Hand.Setup.lean ====
/- The two conditions of the kernel body in closed form over the grid, the memrefs the body gets at a point, and what
   one point writes: the transformed features (point 0), a slice of 400 activation rows (every point), the scores
   (point 24). -/
module

public import proofs.«01_k».proof.Proof.Gen.KernelIdeal.Frame
public import proofs.«01_k».proof.Proof.Gen.KernelIdeal.Skeleton
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The body's first conditional: the grid coordinate is zero. -/
abbrev isFirst (i : grid0.Coords) : Prop :=
  (Scalar.cmpi .ne (Scalar.extui (Scalar.cmpi .eq (BitVec.ofNat 32 (i 0).val) 0#32)) 0#32) = 1#1
/-- The body's second conditional: the grid coordinate is 24. -/
abbrev isLast (i : grid0.Coords) : Prop := k0_cond2 i = 1#1

/-- A point of the grid is its own coordinate. -/
theorem coord_val (t : Fin cfg0.N) : (grid0.coords t 0).val = t.val := by
  have ht : t.val < 25 := Nat.lt_of_lt_of_eq t.isLt N_0
  have e : (grid0.coords t 0).val = t.val / 1 % 25 := Pipeline.Grid.coords_val t 0 (by decide) rfl
  omega

/-- The first branch is taken at the first point only. -/
theorem isFirst_iff (t : Fin cfg0.N) : isFirst (grid0.coords t) ↔ t.val = 0 := by
  have ht : t.val < 25 := Nat.lt_of_lt_of_eq t.isLt N_0
  simp only [isFirst, coord_val]
  word_cmp

/-- The last branch is taken at the last point only. -/
theorem isLast_iff (t : Fin cfg0.N) : isLast (grid0.coords t) ↔ t.val = 24 := by
  have ht : t.val < 25 := Nat.lt_of_lt_of_eq t.isLt N_0
  simp only [isLast, k0_cond2, coord_val]
  word_cmp

/-- The scratch buffer of the transformed features. -/
abbrev scFts : Memref sig .tc .vmem S10000x128 .f32 := Memref.whole cc0_scratch0
/-- The scratch buffer of the activations. -/
abbrev scAct : Memref sig .tc .vmem S10000x128 .f32 := Memref.whole cc0_scratch1

/-- The region's scratch at anything, written with the two scratch memrefs. -/
theorem PhiA_eq (c : Dev nD) :
    (Pipeline.ΦA spec0 c : sProp 𝕄)
      = iprop(iprop((∃ d, owns (c : Thread nD τ) scFts fullShare d) ∗ (∃ d, owns (c : Thread nD τ) scAct fullShare d)) ∗ (∃ r, prngReg c r)) := by
  unfold Pipeline.ΦA; rw [scopedRest0_eq]; simp only [scFts, scAct, owns_whole]; try rfl

/-- The features of both sequences side by side: columns 0-63 those of the first, columns 64-127 those of the second;
    what the two stores of point 0 leave, whatever was there before. -/
def feats (w : Vec F S64x128 .f32) (x1 x2 : Vec F S10000x128 .f32) : Vec F S10000x128 .f32 := fun y =>
  if h : (y 1).val < 64 then k0_pay2 w x1 (fun a => match a with
    | ⟨0, _⟩ => ⟨(y 0).val, (y 0).isLt⟩
    | ⟨1, _⟩ => ⟨(y 1).val, h⟩)
  else k0_pay3 w x2 (fun a => match a with
    | ⟨0, _⟩ => ⟨(y 0).val, (y 0).isLt⟩
    | ⟨1, _⟩ => ⟨(y 1).val - 64, by have h1 : (y 1).val < 128 := (y 1).isLt; show (y 1).val - 64 < 64; omega⟩)

/-- What a point leaves in the activations' scratch: 400 rows from row `o` on, the two column halves in turn. -/
def putRows (o : ℕ) (d : Vec F S10000x128 .f32) (lo hi : Vec F S400x64 .f32) : Vec F S10000x128 .f32 :=
  VecWindow.put (s := S10000x128) (VecWindow.put (s := S10000x128) d ![o, 0] S400x64.size lo) ![o, 64] S400x64.size hi

/-- The two stores of point 0 leave the features. -/
theorem put_feats (w : Vec F S64x128 .f32) (x1 x2 : Vec F S10000x128 .f32) (d : Vec F S10000x128 .f32) :
    VecWindow.put (s := S10000x128) (VecWindow.put (s := S10000x128) d ![0, 0] S10000x64.size (k0_pay2 w x1)) ![0, 64] S10000x64.size (k0_pay3 w x2)
      = feats w x1 x2 := by
  funext y
  have h0 : (y 0).val < 10000 := (y 0).isLt
  have h1 : (y 1).val < 128 := (y 1).isLt
  unfold feats VecWindow.put
  by_cases h : (y 1).val < 64
  · rw [dif_neg, dif_pos, dif_pos h]
    · refine congrArg _ (funext fun a => Fin.ext ?_)
      match a with
      | ⟨0, _⟩ => exact Nat.sub_zero _
      | ⟨1, _⟩ => exact Nat.sub_zero _
    · intro a
      match a with
      | ⟨0, _⟩ => exact ⟨Nat.zero_le _, by show (y 0).val < 0 + 10000; omega⟩
      | ⟨1, _⟩ => exact ⟨Nat.zero_le _, by show (y 1).val < 0 + 64; omega⟩
    · intro hall
      have := (hall 1).1
      have e : (![0, 64] : Fin 2 → ℕ) 1 = 64 := rfl
      have : 64 ≤ (y 1).val := this
      omega
  · rw [dif_pos, dif_neg h]
    · refine congrArg _ (funext fun a => Fin.ext ?_)
      match a with
      | ⟨0, _⟩ => exact Nat.sub_zero _
      | ⟨1, _⟩ => rfl
    · intro a
      match a with
      | ⟨0, _⟩ => exact ⟨Nat.zero_le _, by show (y 0).val < 0 + 10000; omega⟩
      | ⟨1, _⟩ => exact ⟨by show 64 ≤ (y 1).val; omega, by show (y 1).val < 64 + 64; omega⟩

/-- The first row a point stores, and the column half. -/
theorem off1_eq (i : grid0.Coords) : k0_off1 i = ![400 * (i 0).val, 0] := by
  have h : (i 0).val < 25 := (i 0).isLt
  have e : (Scalar.indexCast (Scalar.muli (BitVec.ofNat 32 (i 0).val) 400#32)).toNat = 400 * (i 0).val := by
    simp only [Scalar.indexCast, Scalar.muli, IntOp.muli, BitVec.toNat_mul, BitVec.toNat_ofNat]
    omega
  unfold k0_off1
  exact congrArg (fun n => (![n, 0] : Fin 2 → ℕ)) e

/-- The second store of activations starts at the point's first row and column 64. -/
theorem off2_eq (i : grid0.Coords) : k0_off2 i = ![400 * (i 0).val, 64] := by
  have h : (i 0).val < 25 := (i 0).isLt
  have e : (Scalar.indexCast (Scalar.muli (BitVec.ofNat 32 (i 0).val) 400#32)).toNat = 400 * (i 0).val := by
    simp only [Scalar.indexCast, Scalar.muli, IntOp.muli, BitVec.toNat_mul, BitVec.toNat_ofNat]
    omega
  unfold k0_off2
  exact congrArg (fun n => (![n, 64] : Fin 2 → ℕ)) e

/-- A load of a whole memref at known contents reads them. -/
theorem ld_unread {s : Shape} (M : Memref sig .tc .vmem s .f32) (h : M.IsWhole) (x : Vec F s .f32) {off : Fin s.rank → ℕ}
    (inb : ∀ a, off a + s.size a ≤ s.size a) :
    M.view.readAt (Elt F) (Rect.unit off s.size inb).toLoadRect (h.unread x) = x := by
  rw [View.readAt_full, h.read_unread]

/-- The two stores of a point into the activations' scratch leave the rows put over what was there. -/
theorem read_rows (M : Memref sig .tc .vmem S10000x128 .f32) (f : M.view.ty.Contents (Elt F)) (i : grid0.Coords)
    (lo hi : Vec F S400x64 .f32) (inb1 : ∀ a, k0_off1 i a + S400x64.size a ≤ S10000x128.size a)
    (inb2 : ∀ a, k0_off2 i a + S400x64.size a ≤ S10000x128.size a) :
    M.view.read (Elt F) (M.view.writes (Elt F) f
      [⟨Rect.unit (s := S10000x128) (k0_off2 i) S400x64.size inb2, hi⟩, ⟨Rect.unit (s := S10000x128) (k0_off1 i) S400x64.size inb1, lo⟩])
      = putRows (400 * (i 0).val) (M.view.read (Elt F) f) lo hi := by
  exact (View.read_writes_cons_put M.view f inb2 hi _ (off2_eq i)).trans
    (congrArg (fun d => VecWindow.put (s := S10000x128) d ![400 * (i 0).val, 64] S400x64.size hi)
      (View.read_writes_cons_put M.view f inb1 lo [] (off1_eq i)))

/-- The two stores of point 0 into the features' scratch leave the features, whatever was there. -/
theorem read_feats (M : Memref sig .tc .vmem S10000x128 .f32) (f : M.view.ty.Contents (Elt F))
    (w : Vec F S64x128 .f32) (x1 x2 : Vec F S10000x128 .f32) (inb1 : ∀ a, (![0, 0] : Fin 2 → ℕ) a + S10000x64.size a ≤ S10000x128.size a)
    (inb2 : ∀ a, (![0, 64] : Fin 2 → ℕ) a + S10000x64.size a ≤ S10000x128.size a) :
    M.view.read (Elt F) (M.view.writes (Elt F) f
      [⟨Rect.unit (s := S10000x128) ![0, 64] S10000x64.size inb2, k0_pay3 w x2⟩, ⟨Rect.unit (s := S10000x128) ![0, 0] S10000x64.size inb1, k0_pay2 w x1⟩])
      = feats w x1 x2 := by
  exact ((View.read_writes_cons_put M.view f inb2 (k0_pay3 w x2) _ rfl).trans
    (congrArg (fun d => VecWindow.put (s := S10000x128) d ![0, 64] S10000x64.size (k0_pay3 w x2))
      (View.read_writes_cons_put M.view f inb1 (k0_pay2 w x1) [] rfl))).trans (put_feats w x1 x2 _)

end Cert.KernelIdeal.Hand

end
-- ==== Proof.Hand.Data.lean ====
/- What the scratch buffers and the output hold between the points of the grid, in terms of the arrays the region finds:
   the features, the activations row by row, the scores; and the pipeline's data made of them. -/
module

public import proofs.«01_k».proof.Proof.Hand.Setup

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of the grid, and the last. -/
def firstPt : Fin cfg0.N := ⟨0, by rw [show cfg0.N = 25 from N_0]; decide⟩
/-- The last point of the grid. -/
def lastPt : Fin cfg0.N := ⟨24, by rw [show cfg0.N = 25 from N_0]; decide⟩

/-- The features of both sequences, of the blocks the first point finds. -/
def fts (c : Dev nD) : Vec F S10000x128 .f32 := feats (iblk m c 3 firstPt) (iblk m c 1 firstPt) (iblk m c 2 firstPt)

/-- The two column halves of the 400 activation rows of point `t`. -/
def lo (c : Dev nD) (t : Fin cfg0.N) : Vec F S400x64 .f32 := k0_pay7 (iblk m c 0 t) (fts m c) (iblk m c 4 t) (iblk m c 5 t)
/-- What a point stores in the second half of the columns of its rows. -/
def hi (c : Dev nD) (t : Fin cfg0.N) : Vec F S400x64 .f32 := k0_pay8 (iblk m c 0 t) (fts m c) (iblk m c 4 t) (iblk m c 5 t)

/-- The point that stores row `r`. -/
def ptOf (r : Fin 10000) : Fin cfg0.N := ⟨r.val / 400, by rw [show cfg0.N = 25 from N_0]; have := r.isLt; omega⟩

/-- The activations of both sequences side by side, row by row from the point that stores the row. -/
def acts (c : Dev nD) : Vec F S10000x128 .f32 := fun y =>
  if h : (y 1).val < 64 then lo m c (ptOf (y 0)) (fun a => match a with
    | ⟨0, _⟩ => ⟨(y 0).val % 400, Nat.mod_lt _ (by decide)⟩
    | ⟨1, _⟩ => ⟨(y 1).val, h⟩)
  else hi m c (ptOf (y 0)) (fun a => match a with
    | ⟨0, _⟩ => ⟨(y 0).val % 400, Nat.mod_lt _ (by decide)⟩
    | ⟨1, _⟩ => ⟨(y 1).val - 64, by have h1 : (y 1).val < 128 := (y 1).isLt; show (y 1).val - 64 < 64; omega⟩)

/-- Rows below the point's own are kept, the point's own become the activations: with the activations below row
    `400 * t` before the point, they are there below row `400 * (t + 1)` after it. -/
theorem putRows_acts (c : Dev nD) (t : Fin cfg0.N) (d : Vec F S10000x128 .f32)
    (hd : ∀ y : S10000x128.Idx, (y 0).val < 400 * t.val → d y = acts m c y) (y : S10000x128.Idx) (hy : (y 0).val < 400 * (t.val + 1)) :
    putRows (400 * t.val) d (lo m c t) (hi m c t) y = acts m c y := by
  have ht : t.val < 25 := Nat.lt_of_lt_of_eq t.isLt N_0
  have h0 : (y 0).val < 10000 := (y 0).isLt
  have h1 : (y 1).val < 128 := (y 1).isLt
  unfold putRows VecWindow.put
  by_cases hr : (y 0).val < 400 * t.val
  · rw [dif_neg, dif_neg]
    · exact hd y hr
    · intro hall
      have : 400 * t.val ≤ (y 0).val := (hall 0).1
      omega
    · intro hall
      have : 400 * t.val ≤ (y 0).val := (hall 0).1
      omega
  · have hp : ptOf (y 0) = t := Fin.ext (by show (y 0).val / 400 = t.val; omega)
    unfold acts
    rw [hp]
    by_cases h : (y 1).val < 64
    · rw [dif_neg, dif_pos, dif_pos h]
      · refine congrArg _ (funext fun a => Fin.ext ?_)
        match a with
        | ⟨0, _⟩ => show (y 0).val - 400 * t.val = (y 0).val % 400; omega
        | ⟨1, _⟩ => exact Nat.sub_zero _
      · intro a
        match a with
        | ⟨0, _⟩ => exact ⟨by show 400 * t.val ≤ (y 0).val; omega, by show (y 0).val < 400 * t.val + 400; omega⟩
        | ⟨1, _⟩ => exact ⟨Nat.zero_le _, by show (y 1).val < 0 + 64; omega⟩
      · intro hall
        have : 64 ≤ (y 1).val := (hall 1).1
        omega
    · rw [dif_pos, dif_neg h]
      · refine congrArg _ (funext fun a => Fin.ext ?_)
        match a with
        | ⟨0, _⟩ => show (y 0).val - 400 * t.val = (y 0).val % 400; omega
        | ⟨1, _⟩ => rfl
      · intro a
        match a with
        | ⟨0, _⟩ => exact ⟨by show 400 * t.val ≤ (y 0).val; omega, by show (y 0).val < 400 * t.val + 400; omega⟩
        | ⟨1, _⟩ => exact ⟨by show 64 ≤ (y 1).val; omega, by show (y 1).val < 64 + 64; omega⟩

/-- After the last point the scratch holds every activation. -/
theorem putRows_last (c : Dev nD) (t : Fin cfg0.N) (ht : t.val = 24) (d : Vec F S10000x128 .f32)
    (hd : ∀ y : S10000x128.Idx, (y 0).val < 400 * t.val → d y = acts m c y) :
    putRows (400 * t.val) d (lo m c t) (hi m c t) = acts m c :=
  funext fun y => putRows_acts m c t d hd y (by rw [ht]; exact (y 0).isLt)

/-- The scores, of all activations and the blocks point `t` finds. -/
def scores (c : Dev nD) (t : Fin cfg0.N) : Vec F S10000x2 .f32 :=
  k0_pay1 (acts m c) (iblk m c 6 t) (iblk m c 7 t) (iblk m c 8 t)

/-- The scratch after `n + 1` points: the features, the activations below row `400 * (n + 1)`, the generator at some state. -/
def scratchAt (c : Dev nD) (n : ℕ) : sProp 𝕄 :=
  iprop(owns (c : Thread nD τ) scFts fullShare (fts m c)
    ∗ (∃ d, ⌜∀ y : S10000x128.Idx, (y 0).val < 400 * (n + 1) → d y = acts m c y⌝ ∗ owns (c : Thread nD τ) scAct fullShare d)
    ∗ (∃ r, prngReg c r))

/-- The region's invariant before point `n`: before the first the scratch at anything, then `scratchAt`. -/
def inv (c : Dev nD) : ℕ → sProp 𝕄
  | 0 => Pipeline.ΦA spec0 c
  | n + 1 => scratchAt m c n

/-- After a point has run, the scratch holds what that point left. -/
theorem inv_pos (c : Dev nD) (n : ℕ) (h : n ≠ 0) : inv m c n = scratchAt m c (n - 1) := by
  cases n with
  | zero => exact absurd rfl h
  | succ n => rfl

/-- The pipeline's data: each input's buffer is left at its block, the output's at the scores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => scores m c t
  Φ t := inv m c t.val
  q _ := fullShare
  owed _ := 0

/-- Each window's array is the buffer of the program that the launch hands to it. -/
theorem A_eq (c : Dev nD) (w : Fin cfg0.W) : (dats m 0 c).A w = V m c (Pipeline.arrRef spec0 w) := by
  dsimp only [dats]

/-- What each window's buffer holds after a point: an input its block, the output the scores. -/
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = scores m c t := by dsimp only [dats]

/-- What each input's buffer holds before a point: its block. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d

/-- A window that is not idle at a point is left at the data's contents. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

/-- The output is idle at every point but the last, and live there. -/
theorem idle_out (t : Fin cfg0.N) (h : t.val ≠ 24) : cfg0.idle 9 (grid0.coords t) = true := by
  have hc : ¬ k0_cond2 (grid0.coords t) = 1#1 := fun e => h ((isLast_iff t).mp e)
  show (!(k0_cond2 (grid0.coords t) == 1#1)) = true
  rw [beq_eq_false_iff_ne.mpr hc]; rfl

/-- The output is in use at the last point. -/
theorem live_out (t : Fin cfg0.N) (h : t.val = 24) : cfg0.idle 9 (grid0.coords t) = false := by
  have hc : k0_cond2 (grid0.coords t) = 1#1 := (isLast_iff t).mpr h
  show (!(k0_cond2 (grid0.coords t) == 1#1)) = false
  rw [hc]; rfl

/-- The output is not copied out before the last point. -/
theorem noflush_out (t : Fin cfg0.N) (h : t.val ≠ 24) : (cfg0.win 9).flush t = false := by
  have ht : t.val < 25 := Nat.lt_of_lt_of_eq t.isLt N_0
  cases hf : (cfg0.win 9).flush t with
  | false => rfl
  | true => have := (flush0_9 t).mp hf; omega

end Cert.KernelIdeal.Hand

end
-- ==== Proof.Hand.RunFirst.lean ====
/- The body at the first point of the grid. -/
module

public import proofs.«01_k».proof.Proof.Hand.Setup

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 2000000 in
/-- At the first point the body fills the features' scratch, whatever it held, and stores its 400 rows of activations;
    the scores' buffer is as it was. -/
theorem runFirst (c : Dev nD) (i : grid0.Coords)
    (arg1 : Memref sig .tc .vmem S400x10000 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S64x128 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1x10000 .f32) (harg7 : arg7.IsWhole) (arg8 : Memref sig .tc .vmem S64x64 .f32) (harg8 : arg8.IsWhole) (arg9 : Memref sig .tc .vmem S1x1 .f32) (harg9 : arg9.IsWhole) (arg10 : Memref sig .tc .vmem S10000x2 .f32) (harg10 : arg10.IsWhole) (arg11 : Memref sig .tc .vmem S10000x128 .f32) (harg11 : arg11.IsWhole) (arg12 : Memref sig .tc .vmem S10000x128 .f32) (harg12 : arg12.IsWhole)
    (hf : isFirst i) (hl : ¬isLast i)
    (x0 : Vec F S400x10000 .f32) (x1 : Vec F S10000x128 .f32) (x2 : Vec F S10000x128 .f32) (x3 : Vec F S64x128 .f32) (x4 : Vec F S1x64 .f32) (x5 : Vec F S1x1 .f32) (x6 : Vec F S1x10000 .f32) (x7 : Vec F S64x64 .f32) (x8 : Vec F S1x1 .f32) (x9 : Vec F S10000x2 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d)
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (feats x3 x1 x2)
        ∗ (∃ d, owns (c : Thread nD τ) arg12 fullShare (putRows (400 * (i 0).val) d (k0_pay7 x0 (feats x3 x1 x2) x4 x5) (k0_pay8 x0 (feats x3 x1 x2) x4 x5)))) -∗ K ⟨⟩))
    ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%ds0, %fs0, -, HS0⟩, ⟨%ds1, %fs1, -, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  obtain rfl := harg10.eq_unread hf9
  sl_exec (disch := first | sl_exact hf | sl_exact hl)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [HS0]
  · iexists _; isplitr; swap; · iexact HS0
    ipureintro
    unfold runFirst.sl.HS0_2
    rw [ld_unread, ld_unread, ld_unread]
    exact read_feats arg11 _ x3 x1 x2 _ _
  iexists (arg12.view.read (Elt F) fs1), _; isplitr; swap; · iexact HS1
  ipureintro
  have hv : runFirst.sl.v5 c arg2 harg2 arg3 harg3 arg4 harg4 arg11 x1 x2 x3 = feats x3 x1 x2 := by
    unfold runFirst.sl.v5 runFirst.sl.HS0_2
    rw [ld_unread, ld_unread, ld_unread]
    exact (View.readAt_full _ _ _).trans (read_feats arg11 _ x3 x1 x2 _ _)
  rw [read_rows, hv, ld_unread, ld_unread, ld_unread]

end Cert.KernelIdeal.Hand

end
-- ==== Proof.Hand.RunMid.lean ====
/- The body between the first and the last point of the grid. -/
module

public import proofs.«01_k».proof.Proof.Hand.Setup

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 2000000 in
/-- Between the first and the last point the body stores its 400 rows of activations, over the features' scratch as it
    stands; the scores' buffer is as it was. -/
theorem runMid (c : Dev nD) (i : grid0.Coords)
    (arg1 : Memref sig .tc .vmem S400x10000 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S64x128 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1x10000 .f32) (harg7 : arg7.IsWhole) (arg8 : Memref sig .tc .vmem S64x64 .f32) (harg8 : arg8.IsWhole) (arg9 : Memref sig .tc .vmem S1x1 .f32) (harg9 : arg9.IsWhole) (arg10 : Memref sig .tc .vmem S10000x2 .f32) (harg10 : arg10.IsWhole) (arg11 : Memref sig .tc .vmem S10000x128 .f32) (harg11 : arg11.IsWhole) (arg12 : Memref sig .tc .vmem S10000x128 .f32) (harg12 : arg12.IsWhole)
    (hf : ¬isFirst i) (hl : ¬isLast i)
    (x0 : Vec F S400x10000 .f32) (x1 : Vec F S10000x128 .f32) (x2 : Vec F S10000x128 .f32) (x3 : Vec F S64x128 .f32) (x4 : Vec F S1x64 .f32) (x5 : Vec F S1x1 .f32) (x6 : Vec F S1x10000 .f32) (x7 : Vec F S64x64 .f32) (x8 : Vec F S1x1 .f32) (x9 : Vec F S10000x2 .f32) (xf xa : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xf ∗ owns (c : Thread nD τ) arg12 fullShare xa
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare xf
        ∗ owns (c : Thread nD τ) arg12 fullShare (putRows (400 * (i 0).val) xa (k0_pay7 x0 xf x4 x5) (k0_pay8 x0 xf x4 x5))) -∗ K ⟨⟩))
    ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hs0, HS0⟩, ⟨%fs1, %hs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  obtain rfl := harg10.eq_unread hf9; obtain rfl := harg11.eq_unread hs0; obtain rfl := harg12.eq_unread hs1
  sl_exec (disch := first | sl_exact hf | sl_exact hl)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [HS0]
  · iexists _; isplitr; · ipureintro; exact harg11.read_unread _
    iexact HS0
  iexists _; isplitr; swap; · iexact HS1
  ipureintro
  rw [read_rows, harg12.read_unread, ld_unread, ld_unread, ld_unread, ld_unread]

end Cert.KernelIdeal.Hand

end
-- ==== Proof.Hand.RunLast.lean ====
/- The body at the last point of the grid. -/
module

public import proofs.«01_k».proof.Proof.Hand.Setup

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 2000000 in
/-- At the last point the body stores its 400 rows of activations and, from all of them, the scores. -/
theorem runLast (c : Dev nD) (i : grid0.Coords)
    (arg1 : Memref sig .tc .vmem S400x10000 .f32) (harg1 : arg1.IsWhole) (arg2 : Memref sig .tc .vmem S10000x128 .f32) (harg2 : arg2.IsWhole) (arg3 : Memref sig .tc .vmem S10000x128 .f32) (harg3 : arg3.IsWhole) (arg4 : Memref sig .tc .vmem S64x128 .f32) (harg4 : arg4.IsWhole) (arg5 : Memref sig .tc .vmem S1x64 .f32) (harg5 : arg5.IsWhole) (arg6 : Memref sig .tc .vmem S1x1 .f32) (harg6 : arg6.IsWhole) (arg7 : Memref sig .tc .vmem S1x10000 .f32) (harg7 : arg7.IsWhole) (arg8 : Memref sig .tc .vmem S64x64 .f32) (harg8 : arg8.IsWhole) (arg9 : Memref sig .tc .vmem S1x1 .f32) (harg9 : arg9.IsWhole) (arg10 : Memref sig .tc .vmem S10000x2 .f32) (harg10 : arg10.IsWhole) (arg11 : Memref sig .tc .vmem S10000x128 .f32) (harg11 : arg11.IsWhole) (arg12 : Memref sig .tc .vmem S10000x128 .f32) (harg12 : arg12.IsWhole)
    (hf : ¬isFirst i) (hl : isLast i)
    (x0 : Vec F S400x10000 .f32) (x1 : Vec F S10000x128 .f32) (x2 : Vec F S10000x128 .f32) (x3 : Vec F S64x128 .f32) (x4 : Vec F S1x64 .f32) (x5 : Vec F S1x1 .f32) (x6 : Vec F S1x10000 .f32) (x7 : Vec F S64x64 .f32) (x8 : Vec F S1x1 .f32) (xf xa : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ owns (c : Thread nD τ) arg11 fullShare xf ∗ owns (c : Thread nD τ) arg12 fullShare xa
      ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (k0_pay1 (putRows (400 * (i 0).val) xa (k0_pay7 x0 xf x4 x5) (k0_pay8 x0 xf x4 x5)) x6 x7 x8) ∗ owns (c : Thread nD τ) arg11 fullShare xf
        ∗ owns (c : Thread nD τ) arg12 fullShare (putRows (400 * (i 0).val) xa (k0_pay7 x0 xf x4 x5) (k0_pay8 x0 xf x4 x5))) -∗ K ⟨⟩))
    ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12) K := by
  simp only [cc0__body_eq_skeleton]; unfold cc0__body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%fs0, %hs0, HS0⟩, ⟨%fs1, %hs1, HS1⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  obtain rfl := harg11.eq_unread hs0; obtain rfl := harg12.eq_unread hs1
  sl_exec (disch := first | sl_exact hf | sl_exact hl)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; swap; · iexact H9
    ipureintro
    have hv : runLast.sl.v40 c i arg1 harg1 arg5 harg5 arg6 harg6 arg11 harg11 arg12 harg12 x0 x4 x5 xf xa
        = putRows (400 * (i 0).val) xa (k0_pay7 x0 xf x4 x5) (k0_pay8 x0 xf x4 x5) := by
      unfold runLast.sl.v40 runLast.sl.HS1_2
      rw [View.readAt_full, read_rows, harg12.read_unread, ld_unread, ld_unread, ld_unread, ld_unread]
    refine (View.read_writes_full arg10.view f9 _ _ []).trans ?_
    rw [hv]
    exact congr (congr (congrArg _ (ld_unread arg7 harg7 x6 _)) (ld_unread arg8 harg8 x7 _)) (ld_unread arg9 harg9 x8 _)
  isplitl [HS0]
  · iexists _; isplitr; · ipureintro; exact harg11.read_unread _
    iexact HS0
  iexists _; isplitr; swap; · iexact HS1
  ipureintro
  unfold runLast.sl.HS1_2
  rw [read_rows, harg12.read_unread, ld_unread, ld_unread, ld_unread, ld_unread]

end Cert.KernelIdeal.Hand

end
-- ==== Proof.Hand.Launch.lean ====
/- The body's triple at every point of the grid against the pipeline's data, and the run of the whole program. -/
module

public import proofs.«01_k».proof.Proof.Hand.Data
public import proofs.«01_k».proof.Proof.Hand.RunFirst
public import proofs.«01_k».proof.Proof.Hand.RunMid
public import proofs.«01_k».proof.Proof.Hand.RunLast

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, the windows one by one. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What the body returns at point `t`. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4000000 in
/-- The body at any point: the first fills the features and the first 400 rows, each later one adds its 400 rows, the
    last computes the scores from all of them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl]
  rw [show (dats m 0 c).Φ t.succ = scratchAt m c t.val from rfl, show (dats m 0 c).Φ t.castSucc = inv m c t.val from rfl]
  rw [leaves_live m c 0 t rfl, after_0]
  rw [leaves_live m c 1 t rfl, after_1]
  rw [leaves_live m c 2 t rfl, after_2]
  rw [leaves_live m c 3 t rfl, after_3]
  rw [leaves_live m c 4 t rfl, after_4]
  rw [leaves_live m c 5 t rfl, after_5]
  rw [leaves_live m c 6 t rfl, after_6]
  rw [leaves_live m c 7 t rfl, after_7]
  rw [leaves_live m c 8 t rfl, after_8]
  have ht : t.val < 25 := Nat.lt_of_lt_of_eq t.isLt N_0
  have hi0 : 400 * (grid0.coords t 0).val = 400 * t.val := by rw [coord_val]
  by_cases h0 : t.val = 0
  · have h1 : t.val ≠ 24 := by omega
    obtain rfl : t = firstPt := Fin.ext h0
    rw [(dats m 0 c).leavesExact_idle 9 firstPt (idle_out firstPt h1) (noflush_out firstPt h1)]
    rw [show inv m c firstPt.val = Pipeline.ΦA spec0 c from rfl, PhiA_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (runFirst c (grid0.coords firstPt) _ _ _ _ _ _ _ _ _ _ _ _ _ _ _ _ _ _ _ _ _ _ _ _ ((isFirst_iff firstPt).mpr h0) (fun h => h1 ((isLast_iff firstPt).mp h)) (iblk m c 0 firstPt) (iblk m c 1 firstPt) (iblk m c 2 firstPt) (iblk m c 3 firstPt) (iblk m c 4 firstPt) (iblk m c 5 firstPt) (iblk m c 6 firstPt) (iblk m c 7 firstPt) (iblk m c 8 firstPt) ((dats m 0 c).before 9 firstPt d9) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    isplitl [HS1]; · iexact HS1
    iintro ⟨H0, H1, H2, H3, H4, H5, H6, H7, H8, H9, HS0, ⟨%d, HS1⟩⟩
    isplitl [HS0 HS1 Hg]
    · unfold scratchAt
      isplitl [HS0]; · iexact HS0
      isplitl [HS1]
      · iexists _; isplitr; swap; · iexact HS1
        ipureintro
        rw [hi0]
        exact putRows_acts m c firstPt d (fun y hy => absurd hy (Nat.not_lt_zero _))
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists d9; iexact H9
  · have hn : t.val - 1 + 1 = t.val := by omega
    rw [inv_pos m c _ h0]
    by_cases h1 : t.val = 24
    · rw [leaves_live m c 9 t (live_out t h1), after_9]
      unfold scratchAt
      iintro ⟨⟨HS0, ⟨%da, %hda, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (runLast c (grid0.coords t) _ _ _ _ _ _ _ _ _ _ _ _ _ _ _ _ _ _ _ _ _ _ _ _ (fun h => h0 ((isFirst_iff t).mp h)) ((isLast_iff t).mpr h1) (iblk m c 0 t) (iblk m c 1 t) (iblk m c 2 t) (iblk m c 3 t) (iblk m c 4 t) (iblk m c 5 t) (iblk m c 6 t) (iblk m c 7 t) (iblk m c 8 t)  (fts m c) da Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 Hg]
      · isplitl [HS0]; · iexact HS0
        isplitl [HS1]
        · iexists _; isplitr; swap; · iexact HS1
          ipureintro
          rw [hi0]
          exact putRows_acts m c t da (fun y hy => hda y (by rw [hn]; exact hy))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      have e : k0_pay1 (putRows (400 * (grid0.coords t 0).val) da (lo m c t) (hi m c t)) (iblk m c 6 t) (iblk m c 7 t) (iblk m c 8 t) = scores m c t := by
        rw [hi0, putRows_last m c t h1 da (fun y hy => hda y (by rw [hn]; exact hy))]; rfl
      rw [← e]
      iexact H9
    · rw [(dats m 0 c).leavesExact_idle 9 t (idle_out t h1) (noflush_out t h1)]
      unfold scratchAt
      iintro ⟨⟨HS0, ⟨%da, %hda, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (runMid c (grid0.coords t) _ _ _ _ _ _ _ _ _ _ _ _ _ _ _ _ _ _ _ _ _ _ _ _ (fun h => h0 ((isFirst_iff t).mp h)) (fun h => h1 ((isLast_iff t).mp h)) (iblk m c 0 t) (iblk m c 1 t) (iblk m c 2 t) (iblk m c 3 t) (iblk m c 4 t) (iblk m c 5 t) (iblk m c 6 t) (iblk m c 7 t) (iblk m c 8 t) ((dats m 0 c).before 9 t d9) (fts m c) da Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [HS0]; · iexact HS0
      isplitl [HS1]; · iexact HS1
      iintro ⟨H0, H1, H2, H3, H4, H5, H6, H7, H8, H9, HS0, HS1⟩
      isplitl [HS0 HS1 Hg]
      · isplitl [HS0]; · iexact HS0
        isplitl [HS1]
        · iexists _; isplitr; swap; · iexact HS1
          ipureintro
          rw [hi0]
          exact putRows_acts m c t da (fun y hy => hda y (by rw [hn]; exact hy))
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexists d9; iexact H9

/-- The body table's row at a point is the body. -/
theorem row_eq (t : Fin cfg0.N) : defs₀ (F := F) .tc cfg0.body (cfg0.bodyArgs t (cfg0.slots t)) = bodyAt0 t := by
  unfold defs₀; rw [Defs.onTc_tc]

/-- The body meets its obligation at every point. -/
theorem body_obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-- The scratch as the region is launched is the invariant before the first point. -/
theorem hin (c : Dev nD) : Pipeline.ΦA spec0 c ⊢ (dats m 0 c).Φ 0 :=
  Idealize.SL.BI.Entails.refl _

/-- The invariant after the last point gives the scratch back. -/
theorem hout (c : Dev nD) : (dats m 0 c).Φ (Fin.last cfg0.N) ⊢ Pipeline.ΦA spec0 c := by
  rw [show (dats m 0 c).Φ (Fin.last cfg0.N) = inv m c cfg0.N from rfl, inv_pos m c _ (by rw [show cfg0.N = 25 from N_0]; decide), PhiA_eq]
  unfold scratchAt
  iintro ⟨HS0, ⟨%d, -, HS1⟩, Hg⟩
  isplitl [HS0 HS1]
  · isplitl [HS0]
    · iexists _; iexact HS0
    iexists _; iexact HS1
  iexact Hg

set_option backward.isDefEq.respectTransparency.types false in
set_option maxHeartbeats 800000 in
/-- The program runs: it ends, with the pipeline's arrays as the data say, every other buffer as the lines after the
    region leave it, and every semaphore counter zero. -/
theorem run_main : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m) (hQ' := fun _ h => h)

end Cert.KernelIdeal.Hand

end
-- ==== Proof.Hand.Result.lean ====
/- The run of the kernel read: the counters and arguments at the end, and the result as a term of the scores. -/
module

public import proofs.«01_k».proof.Proof.Hand.Launch
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem

variable {F : FTy → Type} [FloatOps F]
variable (m : (ℓ : Loc nD τ sig) → Buf (Elt F) ℓ) (ρ : Dev nD → PrngReg)

/-- The kernel's output array ends holding the scores the last point computes. -/
theorem final (c : Dev nD) : (dats m 0 c).arrAt 9 cfg0.N = scores m c lastPt := by
  refine (dats m 0 c).arrAt_eq_of_after_last 9 lastPt (by decide +kernel) _ fun j => ?_
  blk_simp
  rw [after_9]

/-- The result: the scores' two columns one after the other, plus the two sample biases one after the other. -/
def result (c : Dev nD) : Vec F S1x20000 .f32 :=
  addf (s := S1x20000) (shapeCast S1x20000 (transpose S2x10000 [1, 0] (scores m c lastPt) transposes_S10000x2_S2x10000_1_0) shapeCasts_S2x10000_S1x20000)
    (concatenate S1x20000 1 [⟨S1x10000, m ((c : Thread nD τ).loc main_arg5)⟩, ⟨S1x10000, m ((c : Thread nD τ).loc main_arg6)⟩] concatenates_S1x10000_S1x10000_S1x20000_d1)

/-- The host lines after the region leave the result in `main_v11`. -/
theorem tail_eq (c : Dev nD) : Pipeline.afterTail₀ cfgs (dats m) 0 (V0 m) [hostOps1] c main_v11 = result m c := by
  have h7 := (Pipeline.withArrays_arr spec0 (by decide) c (V0 m c) (fun w => (dats m 0 c).arrAt w cfg0.N) 9).trans (final m c)
  have h5 := (Pipeline.withArrays_of_ne spec0 c (V0 m c) (fun w => (dats m 0 c).arrAt w cfg0.N) main_arg5
    (by exact (by decide : ∀ w, Pipeline.arrRef spec0 w ≠ main_arg5))).trans (V_main_arg5 m c)
  have h6 := (Pipeline.withArrays_of_ne spec0 c (V0 m c) (fun w => (dats m 0 c).arrAt w cfg0.N) main_arg6
    (by exact (by decide : ∀ w, Pipeline.arrRef spec0 w ≠ main_arg6))).trans (V_main_arg6 m c)
  unfold Pipeline.afterTail₀ result
  revert h7 h5 h6
  generalize scores m c lastPt = S
  change Pipeline.withArrays spec0 c (V0 m c) (fun w => (dats m 0 c).arrAt w cfg0.N) (Proc.devRef .tc main_v7) = S → _
  intro h7 h5 h6
  change StableHlo.after hostOps1 (Pipeline.withArrays spec0 c (V0 m c) (fun w => (dats m 0 c).arrAt w cfg0.N)) (Proc.devRef .tc main_v11) = _
  generalize Pipeline.withArrays spec0 c (V0 m c) (fun w => (dats m 0 c).arrAt w cfg0.N) = X at h7 h5 h6 ⊢
  simp only [hostOps1, StableHlo.after_cons, StableHlo.after_nil]
  after_results_loop
  rw [h7, h5, h6]
  rfl

/-- The program ends with the result in `main_v11`. -/
theorem run_result : θ_run defs (onTc (τ := τ) (main (F := F))) ⟨m, fun _ => 0, ρ⟩ (fun r => ∀ c : Dev nD,
    r.2.mem ((c : Thread nD τ).loc main_v11) = result m c) :=
  (θ_run defs _ _).mono (fun _ h c => ((h.1 c).2 main_v11 (Pipeline.mem_restRefs_of main_v11 (by decide) (by decide))).trans (tail_eq m c))
    (run_main m ρ)

/-- The program ends, its arguments as they were and every semaphore counter zero. -/
theorem frame : θ_run defs (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- The program ends with the result in `main_v11` and its arguments as they were. -/
theorem run : θ_run defs (onTc (τ := τ) (main (F := F))) ⟨m, fun _ => 0, ρ⟩ (fun r => ∀ c : Dev nD,
      r.2.mem ((c : Thread nD τ).loc main_v11) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)) :=
  (θ_run defs _ _).mono (fun _ h c => ⟨h.1 c, h.2.1 c⟩) (θ_run_and (run_result m ρ) (frame m ρ))

end Cert.KernelIdeal.Hand

end
-- ==== Proof.Hand.Same.lean ====
/- The kernel's text is printed twice, once to be read at bits and once at the extended reals. Here the two printings
   are shown to be the same program at every reading of the floats, so that what one ends with the other ends with. -/
module

public import proofs.«01_k».proof.Defs
public import proofs.«01_k».proof.Proof.Gen.Kernel
public import proofs.«01_k».proof.Proof.Hand.Result

@[expose] public section

noncomputable section

namespace Cert.Proof

open Idealize.ShloMosaic Idealize.SL.Sem

variable {F : FTy → Type} [FloatOps F]

/-- The first sixty statements of the two bodies agree. -/
theorem part_same : @Cert.Kernel.k0_part1 F _ _ = @Cert.KernelIdeal.k0_part1 F _ _ := by
  funext i a1 h1 a2 h2 a3 h3 a4 h4 a5 h5 a6 h6 a7 h7 a8 h8 a9 h9 a10 h10 a11 h11 a12 h12
  unfold Cert.Kernel.k0_part1 Cert.KernelIdeal.k0_part1
  rfl

/-- The two bodies agree. -/
theorem body_same : @Cert.Kernel.cc0__body F _ _ = @Cert.KernelIdeal.cc0__body F _ _ := by
  funext i a1 h1 a2 h2 a3 h3 a4 h4 a5 h5 a6 h6 a7 h7 a8 h8 a9 h9 a10 h10 a11 h11 a12 h12
  unfold Cert.Kernel.cc0__body Cert.KernelIdeal.cc0__body
  rfl

/-- So do the tables that hold them. -/
theorem table_same : Cert.Kernel.defs₀ (F := F) = Cert.KernelIdeal.defs₀ (F := F) := by
  unfold Cert.Kernel.defs₀ Cert.KernelIdeal.defs₀
  refine congrArg Defs.onTc (funext fun l => funext fun x => ?_)
  match l, x with
  | 0, (t, s) =>
    dsimp only
    rw [body_same]
    rfl
  | ⟨_ + 1, h⟩, _ => exact absurd h (Nat.not_lt.2 (Nat.le_add_left _ _))

/-- And the tables with the regions' labels. -/
theorem defs_same : Cert.Kernel.defs (F := F) = Cert.KernelIdeal.defs (F := F) :=
  congrArg (Pipeline.defs Cert.KernelIdeal.pcfgs) table_same

/-- And the entry functions. -/
theorem main_same : Cert.Kernel.main (F := F) = Cert.KernelIdeal.main (F := F) := by
  unfold Cert.Kernel.main Cert.KernelIdeal.main
  rfl

/-- So what every run of the one ends with, every run of the other ends with. -/
theorem run_same (σ : MemSt Cert.KernelIdeal.nD Cert.KernelIdeal.τ Cert.KernelIdeal.sig (Elt F)) (P : PUnit × MemSt Cert.KernelIdeal.nD Cert.KernelIdeal.τ Cert.KernelIdeal.sig (Elt F) → Prop)
    (h : θ_run (Cert.KernelIdeal.defs (F := F)) (onTc (τ := Cert.KernelIdeal.τ) (Cert.KernelIdeal.main (F := F))) σ P) :
    θ_run (Cert.Kernel.defs (F := F)) (onTc (τ := Cert.Kernel.τ) (Cert.Kernel.main (F := F))) σ P := by
  rw [defs_same, main_same]
  exact h

end Cert.Proof

end
-- ==== Proof.Hand.Blocks.lean ====
/- The blocks the region's points find, in terms of the arguments. -/
module

public import proofs.«01_k».proof.Proof.Hand.Data
public import Idealize.ShloMosaic.Lib.Pipeline.ValueKit
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable {F : FTy → Type} [FloatOps F]
variable (m : (ℓ : Loc nD τ sig) → Buf (Elt F) ℓ)

/-- The adjacency block moves down with the point; every other window stays at its array's start. -/
theorem index_adj : ∀ t : Fin cfg0.N, win0_0.index t = ![t.val, 0] :=
  (by decide +kernel : ∀ t : Fin grid0.N, _)
/-- Windows 1 to 8 hold their whole array at every point of the grid. -/
theorem index_whole : ∀ t : Fin cfg0.N, win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] :=
  (by decide +kernel : ∀ t : Fin grid0.N, _)

/-- Dropping a leading axis of one keeps the other two coordinates. -/
theorem drop_lead {a b : ℕ} {α : Type} (v : (⟨3, ![1, a, b]⟩ : Shape).Idx → α) (h : (⟨3, ![1, a, b]⟩ : Shape).ShapeCasts ⟨2, ![a, b]⟩)
    (r : Fin a) (j : Fin b) : shapeCast ⟨2, ![a, b]⟩ v h (ix2 r j) = v (ix3 0 r j) := by
  refine (shapeCast_dropUnit_apply ![a, b] v h (ix2 r j)).trans (congrArg v (funext fun d => ?_))
  match d with
  | ⟨0, _⟩ => rfl
  | ⟨1, _⟩ => rfl
  | ⟨2, _⟩ => rfl

/-- The host lines before the region reshape the arguments. -/
theorem V_v0 (c : Dev nD) : V m c main_v0 = shapeCast S10000x128 (m ((c : Thread nD τ).loc main_arg0)) shapeCasts_S1x10000x128_S10000x128 := by
  entry_read; rfl
/-- The second sequence without its leading axis. -/
theorem V_v1 (c : Dev nD) : V m c main_v1 = shapeCast S10000x128 (m ((c : Thread nD τ).loc main_arg1)) shapeCasts_S1x10000x128_S10000x128 := by
  entry_read; rfl
/-- The adjacency without its leading axis. -/
theorem V_v2 (c : Dev nD) : V m c main_v2 = shapeCast S10000x10000 (m ((c : Thread nD τ).loc main_arg2)) shapeCasts_S1x10000x10000_S10000x10000 := by
  entry_read; rfl
/-- The bias as one row. -/
theorem V_v3 (c : Dev nD) : V m c main_v3 = shapeCast S1x64 (m ((c : Thread nD τ).loc main_arg8)) shapeCasts_S64_S1x64 := by
  entry_read; rfl
/-- The slope as one entry. -/
theorem V_v4 (c : Dev nD) : V m c main_v4 = shapeCast S1x1 (m ((c : Thread nD τ).loc main_arg9)) shapeCasts_S_S1x1 := by
  entry_read; rfl
/-- The bilinear bias as one entry. -/
theorem V_v5 (c : Dev nD) : V m c main_v5 = shapeCast S1x1 (m ((c : Thread nD τ).loc main_arg11)) shapeCasts_S1_S1x1 := by
  entry_read; rfl
/-- The bilinear weights without their leading axis. -/
theorem V_v6 (c : Dev nD) : V m c main_v6 = shapeCast S64x64 (m ((c : Thread nD τ).loc main_arg10)) shapeCasts_S1x64x64_S64x64 := by
  entry_read; rfl

/-- Point `t`'s adjacency block: the 400 rows from `400 * t`. -/
theorem blk_adj (c : Dev nD) (t : Fin cfg0.N) (r : Fin 400) (j : Fin 10000) (h : 400 * t.val + r.val < 10000) :
    iblk m c 0 t (ix2 r j) = m ((c : Thread nD τ).loc main_arg2) (ix3 0 ⟨400 * t.val + r.val, h⟩ j) := by
  have e : (((cfg0.win 0).blk t).view.emb (ix2 r j)) = ix2 ⟨400 * t.val + r.val, h⟩ j := by blk_ext [index_adj t]
  unfold iblk
  show V m c main_v2 _ = _
  rw [V_v2, e]
  exact drop_lead _ _ _ _

/-- Both sequences' blocks are the whole sequences. -/
theorem blk_seq1 (c : Dev nD) (t : Fin cfg0.N) (r : Fin 10000) (j : Fin 128) :
    iblk m c 1 t (ix2 r j) = m ((c : Thread nD τ).loc main_arg0) (ix3 0 r j) := by
  have e : (((cfg0.win 1).blk t).view.emb (ix2 r j)) = ix2 r j := by blk_ext [index_whole t]
  unfold iblk
  show V m c main_v0 _ = _
  rw [V_v0, e]
  exact drop_lead _ _ _ _
/-- Window 2 holds the second sequence. -/
theorem blk_seq2 (c : Dev nD) (t : Fin cfg0.N) (r : Fin 10000) (j : Fin 128) :
    iblk m c 2 t (ix2 r j) = m ((c : Thread nD τ).loc main_arg1) (ix3 0 r j) := by
  have e : (((cfg0.win 2).blk t).view.emb (ix2 r j)) = ix2 r j := by blk_ext [index_whole t]
  unfold iblk
  show V m c main_v1 _ = _
  rw [V_v1, e]
  exact drop_lead _ _ _ _

/-- So are the weights' of the features, the bias's, the slope's, the mask's, the bilinear weights' and bias's. -/
theorem blk_wfc (c : Dev nD) (t : Fin cfg0.N) (r : Fin 64) (j : Fin 128) :
    iblk m c 3 t (ix2 r j) = m ((c : Thread nD τ).loc main_arg7) (ix2 r j) := by
  blk_ext! [iblk, V, index_whole t]
/-- Window 4 holds the bias. -/
theorem blk_bias (c : Dev nD) (t : Fin cfg0.N) (j : Fin 64) :
    iblk m c 4 t (ix2 0 j) = m ((c : Thread nD τ).loc main_arg8) (ix1 j) := by
  have e : (((cfg0.win 4).blk t).view.emb (ix2 0 j)) = ix2 0 j := by blk_ext [index_whole t]
  unfold iblk
  show V m c main_v3 _ = _
  rw [V_v3, e]
  pointwise
/-- Window 5 holds the slope. -/
theorem blk_slope (c : Dev nD) (t : Fin cfg0.N) :
    iblk m c 5 t (ix2 0 0) = m ((c : Thread nD τ).loc main_arg9) ix0 := by
  have e : (((cfg0.win 5).blk t).view.emb (ix2 0 0)) = ix2 0 0 := by blk_ext [index_whole t]
  unfold iblk
  show V m c main_v4 _ = _
  rw [V_v4, e]
  pointwise
/-- Window 6 holds the mask. -/
theorem blk_msk (c : Dev nD) (t : Fin cfg0.N) (j : Fin 10000) :
    iblk m c 6 t (ix2 0 j) = m ((c : Thread nD τ).loc main_arg4) (ix2 0 j) := by
  blk_ext! [iblk, V, index_whole t]
/-- Window 7 holds the bilinear weights. -/
theorem blk_wbil (c : Dev nD) (t : Fin cfg0.N) (r j : Fin 64) :
    iblk m c 7 t (ix2 r j) = m ((c : Thread nD τ).loc main_arg10) (ix3 0 r j) := by
  have e : (((cfg0.win 7).blk t).view.emb (ix2 r j)) = ix2 r j := by blk_ext [index_whole t]
  unfold iblk
  show V m c main_v6 _ = _
  rw [V_v6, e]
  exact drop_lead _ _ _ _
/-- Window 8 holds the bilinear bias. -/
theorem blk_bbil (c : Dev nD) (t : Fin cfg0.N) :
    iblk m c 8 t (ix2 0 0) = m ((c : Thread nD τ).loc main_arg11) (ix1 0) := by
  have e : (((cfg0.win 8).blk t).view.emb (ix2 0 0)) = ix2 0 0 := by blk_ext [index_whole t]
  unfold iblk
  show V m c main_v5 _ = _
  rw [V_v5, e]
  pointwise

end Cert.KernelIdeal.Hand

end
-- ==== Proof.Hand.Maths.lean ====
/- The network's mathematics on the extended reals, the arrays as plain functions of their coordinates, and the one
   equation between the two orders of the bilinear score. -/
module

public import Idealize.ShloMosaic.PureOps.Ideal
public import Mathlib.Data.EReal.Operations

@[expose] public section

noncomputable section

namespace Cert.Maths

open Idealize.ShloMosaic

/-- One feature of one node: the node's inputs times a row of the weights. -/
def feat (X : Fin 10000 → Fin 128 → EReal) (W : Fin 64 → Fin 128 → EReal) (r : Fin 10000) (d : Fin 64) : EReal :=
  ∑ k, X r k * W d k

/-- The leaky rectifier with slope `a` below zero. -/
def prelu (a v : EReal) : EReal := if 0 < v then v else a * v

/-- One activation of one node: the features of its neighbours, weighted, plus the bias, rectified. -/
def act (X : Fin 10000 → Fin 128 → EReal) (A : Fin 10000 → Fin 10000 → EReal) (W : Fin 64 → Fin 128 → EReal)
    (b : Fin 64 → EReal) (a : EReal) (r : Fin 10000) (d : Fin 64) : EReal :=
  prelu a ((∑ j, A r j * feat X W j d) + b d)

/-- One entry of the summary: the masked mean of an activation over the nodes, through the logistic function. -/
def summ (msk : Fin 10000 → EReal) (h : Fin 10000 → Fin 64 → EReal) (e : Fin 64) : EReal :=
  Ideal.logistic (Ideal.div (∑ r, msk r * h r e) (∑ r, msk r))

/-- The bilinear score of one node against the summary, the weights applied to the summary first. -/
def score (h : Fin 10000 → Fin 64 → EReal) (W : Fin 64 → Fin 64 → EReal) (c : Fin 64 → EReal) (bb : EReal) (r : Fin 10000) : EReal :=
  (∑ d, h r d * ∑ e, W d e * c e) + bb

/-- The same score, the weights applied to the node's activations first. -/
def scoreOuter (h : Fin 10000 → Fin 64 → EReal) (W : Fin 64 → Fin 64 → EReal) (c : Fin 64 → EReal) (bb : EReal) (r : Fin 10000) : EReal :=
  (∑ e, c e * ∑ d, W d e * h r d) + bb

/-- A number of the extended reals that is a real. -/
def IsReal (x : EReal) : Prop := ∃ y : ℝ, x = (y : EReal)

/-- A number of size below infinity is a real. -/
theorem isReal_of_abs_lt {x : EReal} (h : max x (-x) < ⊤) : IsReal x := by
  induction x with
  | bot => simp at h
  | coe y => exact ⟨y, rfl⟩
  | top => simp at h

/-- The sum of two reals is a real. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The product of two reals is a real. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A sum of reals in the extended reals is the sum in the reals. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A finite sum of reals is a real. -/
theorem IsReal.sum {ι : Type} [Fintype ι] {f : ι → EReal} (h : ∀ i, IsReal (f i)) : IsReal (∑ i, f i) := by
  choose g hg using h
  exact ⟨∑ i, g i, by rw [coe_sum]; exact Finset.sum_congr rfl fun i _ => hg i⟩

/-- The rectifier takes reals to reals. -/
theorem IsReal.prelu {a v : EReal} (ha : IsReal a) (hv : IsReal v) : IsReal (prelu a v) := by
  unfold Maths.prelu
  split
  · exact hv
  · exact ha.mul hv

/-- The logistic function of any extended real is a real. -/
theorem isReal_logistic (x : EReal) : IsReal (Ideal.logistic x) := by
  have htop : (1 : EReal) + ⊤ = ⊤ := EReal.coe_add_top 1
  unfold Ideal.logistic Ideal.div
  induction x with
  | bot => exact ⟨0, by simp [htop]⟩
  | top => exact ⟨1, by simp⟩
  | coe y =>
    have he : (1 : EReal) + Ideal.exp (-(y : EReal)) = ((1 + Real.exp (-y) : ℝ) : EReal) := by
      rw [EReal.coe_add, ← EReal.coe_neg, Ideal.exp_coe, EReal.coe_one]
    have hne : ¬ ((1 + Real.exp (-y) : ℝ) : EReal) = 0 := by
      rw [EReal.coe_eq_zero]
      have := Real.exp_pos (-y)
      linarith
    rw [he, if_neg hne, one_mul, ← EReal.coe_inv]
    exact ⟨_, rfl⟩

/-- With real inputs, weights, bias and slope every activation is a real. -/
theorem isReal_act {X : Fin 10000 → Fin 128 → EReal} {A : Fin 10000 → Fin 10000 → EReal} {W : Fin 64 → Fin 128 → EReal}
    {b : Fin 64 → EReal} {a : EReal} (hX : ∀ r k, IsReal (X r k)) (hA : ∀ r j, IsReal (A r j)) (hW : ∀ d k, IsReal (W d k))
    (hb : ∀ d, IsReal (b d)) (ha : IsReal a) (r : Fin 10000) (d : Fin 64) : IsReal (act X A W b a r d) :=
  .prelu ha ((IsReal.sum fun j => (hA r j).mul (IsReal.sum fun k => (hX j k).mul (hW d k))).add (hb d))

/-- On reals the two orders of the bilinear score agree. -/
theorem score_eq {h : Fin 10000 → Fin 64 → EReal} {W : Fin 64 → Fin 64 → EReal} {c : Fin 64 → EReal} (bb : EReal)
    (hh : ∀ r d, IsReal (h r d)) (hW : ∀ d e, IsReal (W d e)) (hc : ∀ e, IsReal (c e)) (r : Fin 10000) :
    score h W c bb r = scoreOuter h W c bb r := by
  choose h' hh' using hh
  choose W' hW' using hW
  choose c' hc' using hc
  unfold score scoreOuter
  refine congrArg (· + bb) ?_
  simp only [hh', hW', hc', ← EReal.coe_mul, ← coe_sum]
  refine congrArg _ ?_
  simp only [Finset.mul_sum]
  rw [Finset.sum_comm]
  exact Finset.sum_congr rfl fun e _ => Finset.sum_congr rfl fun d _ => by ring

end Cert.Maths

end
-- ==== Proof.Hand.KernelValue.lean ====
/- The kernel's result, entry by entry, as the network's mathematics of the arguments. -/
module

public import proofs.«01_k».proof.Proof.Hand.Result
public import proofs.«01_k».proof.Proof.Hand.Blocks
public import proofs.«01_k».proof.Proof.Hand.Maths

@[expose] public section

set_option maxRecDepth 16384

noncomputable section

namespace Cert.KernelIdeal.Hand

open Cert.KernelIdeal Cert.KernelIdeal.Gen Cert.Maths
open Idealize.ShloMosaic Idealize.ShloMosaic.TcCoe Idealize.ShloMosaic.Tactic

/-- A first-half and a second-half column of the 128 columns. -/
abbrev colLo (d : Fin 64) : Fin 128 := ⟨d.val, by have := d.isLt; omega⟩
abbrev colHi (d : Fin 64) : Fin 128 := ⟨64 + d.val, by have := d.isLt; omega⟩

/-- The features of one sequence: the product of the sequence with the weights' rows. -/
theorem pay2_apply (w : Vec Ideal S64x128 .f32) (x : Vec Ideal S10000x128 .f32) (r : Fin 10000) (d : Fin 64) :
    k0_pay2 w x (ix2 r d) = feat (fun r k => x (ix2 r k)) (fun d k => w (ix2 d k)) r d := by
  unfold k0_pay2 feat
  pointwise

/-- The other sequence's features are the same product. -/
theorem pay3_apply (w : Vec Ideal S64x128 .f32) (x : Vec Ideal S10000x128 .f32) (r : Fin 10000) (d : Fin 64) :
    k0_pay3 w x (ix2 r d) = feat (fun r k => x (ix2 r k)) (fun d k => w (ix2 d k)) r d := by
  unfold k0_pay3 feat
  pointwise

/-- One stored activation of the first half of the columns, of a block of the adjacency and all features. -/
theorem pay7_apply (A : Vec Ideal S400x10000 .f32) (f : Vec Ideal S10000x128 .f32) (b : Vec Ideal S1x64 .f32) (a : Vec Ideal S1x1 .f32)
    (r : Fin 400) (d : Fin 64) :
    k0_pay7 A f b a (ix2 r d) = prelu (a (ix2 0 0)) ((∑ j, A (ix2 r j) * f (ix2 j (colLo d))) + b (ix2 0 d)) := by
  unfold k0_pay7 k0_pay4 k0_pay5 k0_pay6 prelu
  pointwise

/-- The same of the second half. -/
theorem pay8_apply (A : Vec Ideal S400x10000 .f32) (f : Vec Ideal S10000x128 .f32) (b : Vec Ideal S1x64 .f32) (a : Vec Ideal S1x1 .f32)
    (r : Fin 400) (d : Fin 64) :
    k0_pay8 A f b a (ix2 r d) = prelu (a (ix2 0 0)) ((∑ j, A (ix2 r j) * f (ix2 j (colHi d))) + b (ix2 0 d)) := by
  unfold k0_pay8 k0_pay4 k0_pay5 k0_pay6 prelu
  pointwise

/-- Choosing the diagonal of a row repeated down the rows, and adding up a row, gives the row's entry back. -/
theorem sum_diagonal (f : Fin 64 → EReal) (e : Fin 64) :
    (∑ x : Fin 64, Scalar.select (IntOp.cmpi CmpIPredicate.eq (BitVec.ofNat 32 e.val) (BitVec.ofNat 32 x.val)) (f x) 0) = f e := by
  have hsel : ∀ x : Fin 64, Scalar.select (IntOp.cmpi CmpIPredicate.eq (BitVec.ofNat 32 e.val) (BitVec.ofNat 32 x.val)) (f x) 0
      = if x = e then f x else 0 := by
    intro x
    have hx := x.isLt
    have he := e.isLt
    by_cases h : x = e
    · subst h
      simp [Scalar.select, IntOp.cmpi]
    · have hne : ¬ BitVec.ofNat 32 e.val = BitVec.ofNat 32 x.val := by
        intro hb
        have := congrArg BitVec.toNat hb
        simp only [BitVec.toNat_ofNat] at this
        exact h (Fin.ext (by omega))
      have hb : (BitVec.ofNat 32 e.val == BitVec.ofNat 32 x.val) = false := beq_eq_false_iff_ne.mpr fun hb => hne hb
      simp [Scalar.select, IntOp.cmpi, h, hb]
  rw [Finset.sum_congr rfl fun x _ => hsel x, Finset.sum_ite_eq' Finset.univ e f, if_pos (Finset.mem_univ e)]

/-- The first column of the last point's store: each node's score of the first half of the activations, against the
    summary of the first half. -/
theorem pay1_apply_lo (h : Vec Ideal S10000x128 .f32) (msk : Vec Ideal S1x10000 .f32) (W : Vec Ideal S64x64 .f32) (bb : Vec Ideal S1x1 .f32) (r : Fin 10000) :
    k0_pay1 h msk W bb (ix2 r 0) = score (fun r d => h (ix2 r (colLo d))) (fun d e => W (ix2 d e))
      (summ (fun r => msk (ix2 0 r)) (fun r d => h (ix2 r (colLo d)))) (bb (ix2 0 0)) r := by
  unfold k0_pay1 score summ
  pointwise
  simp only [sum_diagonal, mul_zero, Finset.sum_const_zero, add_zero, Fin.sum_univ_one]

/-- The second column: the score of the second half, against the same summary. -/
theorem pay1_apply_hi (h : Vec Ideal S10000x128 .f32) (msk : Vec Ideal S1x10000 .f32) (W : Vec Ideal S64x64 .f32) (bb : Vec Ideal S1x1 .f32) (r : Fin 10000) :
    k0_pay1 h msk W bb (ix2 r 1) = score (fun r d => h (ix2 r (colHi d))) (fun d e => W (ix2 d e))
      (summ (fun r => msk (ix2 0 r)) (fun r d => h (ix2 r (colLo d)))) (bb (ix2 0 0)) r := by
  unfold k0_pay1 score summ
  pointwise
  simp only [sum_diagonal, mul_zero, Finset.sum_const_zero, zero_add, Fin.sum_univ_one]

variable (m : (ℓ : Loc nD τ sig) → Buf (Elt Ideal) ℓ)

/-- The arguments as functions of their coordinates: the two sequences, the adjacency, the mask, the features' weights,
    the bias, the slope, the bilinear weights and bias. -/
def seqA (c : Dev nD) (r : Fin 10000) (k : Fin 128) : EReal := m ((c : Thread nD τ).loc main_arg0) (ix3 0 r k)
def seqB (c : Dev nD) (r : Fin 10000) (k : Fin 128) : EReal := m ((c : Thread nD τ).loc main_arg1) (ix3 0 r k)
def adj (c : Dev nD) (r j : Fin 10000) : EReal := m ((c : Thread nD τ).loc main_arg2) (ix3 0 r j)
def mask (c : Dev nD) (r : Fin 10000) : EReal := m ((c : Thread nD τ).loc main_arg4) (ix2 0 r)
def wFc (c : Dev nD) (d : Fin 64) (k : Fin 128) : EReal := m ((c : Thread nD τ).loc main_arg7) (ix2 d k)
def bias (c : Dev nD) (d : Fin 64) : EReal := m ((c : Thread nD τ).loc main_arg8) (ix1 d)
def slope (c : Dev nD) : EReal := m ((c : Thread nD τ).loc main_arg9) ix0
def wBil (c : Dev nD) (d e : Fin 64) : EReal := m ((c : Thread nD τ).loc main_arg10) (ix3 0 d e)
def bBil (c : Dev nD) : EReal := m ((c : Thread nD τ).loc main_arg11) (ix1 0)

/-- The activations of each sequence. -/
def actA (c : Dev nD) : Fin 10000 → Fin 64 → EReal := act (seqA m c) (adj m c) (wFc m c) (bias m c) (slope m c)
def actB (c : Dev nD) : Fin 10000 → Fin 64 → EReal := act (seqB m c) (adj m c) (wFc m c) (bias m c) (slope m c)

/-- The scratch's features, the first half of the columns: the first sequence's features. -/
theorem fts_lo (c : Dev nD) (r : Fin 10000) (d : Fin 64) : fts m c (ix2 r (colLo d)) = feat (seqA m c) (wFc m c) r d := by
  have h : fts m c (ix2 r (colLo d)) = k0_pay2 (iblk m c 3 firstPt) (iblk m c 1 firstPt) (ix2 r d) := by
    unfold fts feats
    rw [dif_pos (show ((ix2 r (colLo d) : S10000x128.Idx) 1).val < 64 from d.isLt)]
    exact congrArg _ (funext fun a => match a with | ⟨0, _⟩ => rfl | ⟨1, _⟩ => rfl)
  rw [h, pay2_apply]
  simp only [blk_seq1, blk_wfc]
  rfl

/-- The second half of the columns: the second sequence's features. -/
theorem fts_hi (c : Dev nD) (r : Fin 10000) (d : Fin 64) : fts m c (ix2 r (colHi d)) = feat (seqB m c) (wFc m c) r d := by
  have h : fts m c (ix2 r (colHi d)) = k0_pay3 (iblk m c 3 firstPt) (iblk m c 2 firstPt) (ix2 r d) := by
    unfold fts feats
    rw [dif_neg (show ¬ ((ix2 r (colHi d) : S10000x128.Idx) 1).val < 64 from fun h => absurd h (by show ¬ 64 + d.val < 64; omega))]
    refine congrArg _ (funext fun a => Fin.ext ?_)
    match a with
    | ⟨0, _⟩ => rfl
    | ⟨1, _⟩ => show 64 + d.val - 64 = d.val; omega
  rw [h, pay3_apply]
  simp only [blk_seq2, blk_wfc]
  rfl

/-- A row's adjacency entries, found in the block of the point that stores the row. -/
theorem blk_row (c : Dev nD) (r j : Fin 10000) :
    iblk m c 0 (ptOf r) (ix2 ⟨r.val % 400, Nat.mod_lt _ (by decide)⟩ j) = adj m c r j := by
  have h : 400 * (ptOf r).val + r.val % 400 = r.val := by show 400 * (r.val / 400) + r.val % 400 = r.val; omega
  refine (blk_adj m c (ptOf r) _ j (by show 400 * (ptOf r).val + r.val % 400 < 10000; rw [h]; exact r.isLt)).trans ?_
  unfold adj
  exact congrArg (fun q => m ((c : Thread nD τ).loc main_arg2) (ix3 0 q j)) (Fin.ext h)

/-- The scratch's activations, the first half of the columns: the first sequence's activations. -/
theorem acts_lo (c : Dev nD) (r : Fin 10000) (d : Fin 64) : acts m c (ix2 r (colLo d)) = actA m c r d := by
  have h : acts m c (ix2 r (colLo d)) = lo m c (ptOf r) (ix2 ⟨r.val % 400, Nat.mod_lt _ (by decide)⟩ d) := by
    unfold acts
    rw [dif_pos (show ((ix2 r (colLo d) : S10000x128.Idx) 1).val < 64 from d.isLt)]
    exact congrArg _ (funext fun a => match a with | ⟨0, _⟩ => rfl | ⟨1, _⟩ => rfl)
  rw [h]
  unfold lo
  rw [pay7_apply]
  simp only [blk_row, fts_lo, blk_bias, blk_slope]
  rfl

/-- The second half of the columns: the second sequence's activations. -/
theorem acts_hi (c : Dev nD) (r : Fin 10000) (d : Fin 64) : acts m c (ix2 r (colHi d)) = actB m c r d := by
  have h : acts m c (ix2 r (colHi d)) = hi m c (ptOf r) (ix2 ⟨r.val % 400, Nat.mod_lt _ (by decide)⟩ d) := by
    unfold acts
    rw [dif_neg (show ¬ ((ix2 r (colHi d) : S10000x128.Idx) 1).val < 64 from fun h => absurd h (by show ¬ 64 + d.val < 64; omega))]
    refine congrArg _ (funext fun a => Fin.ext ?_)
    match a with
    | ⟨0, _⟩ => rfl
    | ⟨1, _⟩ => show 64 + d.val - 64 = d.val; omega
  rw [h]
  unfold hi
  rw [pay8_apply]
  simp only [blk_row, fts_hi, blk_bias, blk_slope]
  rfl

/-- The first 10000 entries of the result: the first sequence's scores plus the first sample bias. -/
theorem result_lo (c : Dev nD) (j : Fin 10000) : result m c (ix2 0 ⟨j.val, by have := j.isLt; omega⟩)
    = score (actA m c) (wBil m c) (summ (mask m c) (actA m c)) (bBil m c) j + m ((c : Thread nD τ).loc main_arg5) (ix2 0 j) := by
  have h : result m c (ix2 0 ⟨j.val, by have := j.isLt; omega⟩)
      = scores m c lastPt (ix2 j 0) + m ((c : Thread nD τ).loc main_arg5) (ix2 0 j) := by
    unfold result
    generalize scores m c lastPt = S
    pointwise
    refine congrArg (· + _) (congrArg S (funext fun a => Fin.ext ?_))
    have hj := j.isLt
    match a with
    | ⟨0, _⟩ => show j.val % 10000 = j.val; omega
    | ⟨1, _⟩ => show j.val / 10000 = 0; omega
  rw [h]
  unfold scores
  rw [pay1_apply_lo]
  simp only [acts_lo, blk_wbil, blk_msk, blk_bbil]
  rfl

/-- The last 10000 entries of the result: the second sequence's scores plus the second sample bias. -/
theorem result_hi (c : Dev nD) (j : Fin 10000) : result m c (ix2 0 ⟨10000 + j.val, by have := j.isLt; omega⟩)
    = score (actB m c) (wBil m c) (summ (mask m c) (actA m c)) (bBil m c) j + m ((c : Thread nD τ).loc main_arg6) (ix2 0 j) := by
  have h : result m c (ix2 0 ⟨10000 + j.val, by have := j.isLt; omega⟩)
      = scores m c lastPt (ix2 j 1) + m ((c : Thread nD τ).loc main_arg6) (ix2 0 j) := by
    unfold result
    generalize scores m c lastPt = S
    pointwise
    refine congrArg (· + _) (congrArg S (funext fun a => Fin.ext ?_))
    have hj := j.isLt
    match a with
    | ⟨0, _⟩ => rfl
    | ⟨1, _⟩ => show (10000 + j.val) / 10000 = 1; omega
  rw [h]
  unfold scores
  rw [pay1_apply_hi]
  simp only [acts_lo, acts_hi, blk_wbil, blk_msk, blk_bbil]
  rfl

end Cert.KernelIdeal.Hand

end
-- ==== Proof.Hand.RefValue.lean ====
/- The reference's result, entry by entry, as the network's mathematics of the arguments. -/
module

public import proofs.«01_k».proof.Proof.Gen.ReferenceIdeal
public import proofs.«01_k».proof.Proof.Gen.ReferenceIdeal.Read
public import proofs.«01_k».proof.Proof.Hand.Maths
public import Idealize.ShloMosaic.Lib.Pipeline.ValueKit

@[expose] public section

set_option maxRecDepth 16384

noncomputable section

namespace Cert.ReferenceIdeal.Hand

open Cert.ReferenceIdeal Cert.ReferenceIdeal.Gen Cert.ReferenceIdeal.Read Cert.Maths
open Idealize.ShloMosaic Idealize.ShloMosaic.TcCoe Idealize.ShloMosaic.Tactic

/-- The arguments by name, of the shapes the reference takes. -/
abbrev Seq := (⟨S1x10000x128, .f32⟩ : BufTy).Contents (Elt Ideal)
abbrev Adj := (⟨S1x10000x10000, .f32⟩ : BufTy).Contents (Elt Ideal)
abbrev Row := (⟨S1x10000, .f32⟩ : BufTy).Contents (Elt Ideal)
abbrev Wfc := (⟨S64x128, .f32⟩ : BufTy).Contents (Elt Ideal)
abbrev Bias := (⟨S64, .f32⟩ : BufTy).Contents (Elt Ideal)
abbrev Slope := (⟨S_, .f32⟩ : BufTy).Contents (Elt Ideal)
abbrev Wbil := (⟨S1x64x64, .f32⟩ : BufTy).Contents (Elt Ideal)
abbrev Bbil := (⟨S1, .f32⟩ : BufTy).Contents (Elt Ideal)

variable (x0 x1 : Seq) (x2 : Adj) (x4 x5 x6 : Row) (x7 : Wfc) (x8 : Bias) (x9 : Slope) (x10 : Wbil) (x11 : Bbil)

/-- The activations of a sequence, of the argument arrays. -/
def actOf (r : Fin 10000) (d : Fin 64) : EReal :=
  act (fun r k => x0 (ix3 0 r k)) (fun r j => x2 (ix3 0 r j)) (fun d k => x7 (ix2 d k)) (fun d => x8 (ix1 d)) (x9 ix0) r d

/-- The first product: each node's features. -/
theorem ref_feat (r : Fin 10000) (d : Fin 64) :
    val_main_v0 (F := Ideal) x0 x7 (ix3 0 r d) = feat (fun r k => x0 (ix3 0 r k)) (fun d k => x7 (ix2 d k)) r d := by
  unfold val_main_v0 feat
  pointwise

/-- The second product: the features of the neighbours, weighted by the adjacency. -/
theorem ref_agg (r : Fin 10000) (d : Fin 64) :
    val_main_v1 (F := Ideal) x0 x2 x7 (ix3 0 r d)
      = ∑ j, x2 (ix3 0 r j) * feat (fun r k => x0 (ix3 0 r k)) (fun d k => x7 (ix2 d k)) j d := by
  simp only [← ref_feat]
  unfold val_main_v1
  generalize val_main_v0 (F := Ideal) x0 x7 = y
  pointwise

/-- The activations: the bias added and the rectifier applied. -/
theorem ref_act (r : Fin 10000) (d : Fin 64) : val_main_v9 (F := Ideal) x0 x2 x7 x8 x9 (ix3 0 r d) = actOf x0 x2 x7 x8 x9 r d := by
  unfold actOf act prelu
  rw [← ref_agg]
  unfold val_main_v9 val_main_v8 val_main_v7 val_main_v6 val_main_v5 val_main_cst val_main_v4 val_main_v3 val_main_v2
  generalize val_main_v1 (F := Ideal) x0 x2 x7 = y
  pointwise

/-- The masked sum of an activation over the nodes. -/
theorem ref_sum (e : Fin 64) :
    val_main_v13 (F := Ideal) x0 x2 x4 x7 x8 x9 (ix2 0 e) = ∑ r, x4 (ix2 0 r) * actOf x0 x2 x7 x8 x9 r e := by
  simp only [← ref_act]
  unfold val_main_v13 val_main_v12 val_main_v11 val_main_v10 val_main_cst_0
  generalize val_main_v9 (F := Ideal) x0 x2 x7 x8 x9 = y
  pointwise
  exact Finset.sum_congr rfl fun r _ => mul_comm _ _

/-- The sum of the mask. -/
theorem ref_count (i : S_.Idx) : val_main_v14 (F := Ideal) x4 i = ∑ r, x4 (ix2 0 r) := by
  unfold val_main_v14 val_main_v10 val_main_cst_1
  pointwise
  simp only [Fin.sum_univ_one]

/-- The summary: the masked mean through the logistic function. -/
theorem ref_summ (e : Fin 64) : val_main_v22 (F := Ideal) x0 x2 x4 x7 x8 x9 (ix2 0 e)
    = summ (fun r => x4 (ix2 0 r)) (actOf x0 x2 x7 x8 x9) e := by
  unfold summ
  rw [← ref_sum, ← ref_count x4 ix0]
  unfold val_main_v22 val_main_v21 val_main_v20 val_main_v19 val_main_v18 val_main_v17 val_main_v16 val_main_v15 val_main_cst_2 val_main_cst_3
  generalize val_main_v13 (F := Ideal) x0 x2 x4 x7 x8 x9 = y
  generalize val_main_v14 (F := Ideal) x4 = z
  pointwise
  rfl

/-- A node's activations through the bilinear weights. -/
theorem ref_proj (e : Fin 64) (r : Fin 10000) : val_main_v36 (F := Ideal) x0 x2 x7 x8 x9 x10 (ix3 e 0 r)
    = ∑ d, x10 (ix3 0 d e) * actOf x0 x2 x7 x8 x9 r d := by
  simp only [← ref_act]
  unfold val_main_v36 val_main_v35
  generalize val_main_v9 (F := Ideal) x0 x2 x7 x8 x9 = y
  pointwise

/-- The scores of the first sequence. -/
theorem ref_score_lo (r : Fin 10000) : val_main_v40 (F := Ideal) x0 x2 x4 x7 x8 x9 x10 x11 (ix2 0 r)
    = scoreOuter (actOf x0 x2 x7 x8 x9) (fun d e => x10 (ix3 0 d e)) (summ (fun r => x4 (ix2 0 r)) (actOf x0 x2 x7 x8 x9)) (x11 (ix1 0)) r := by
  unfold scoreOuter val_main_v40 val_main_v39 val_main_v38 val_main_v37 val_main_v34 val_main_v33
  generalize hy : val_main_v36 (F := Ideal) x0 x2 x7 x8 x9 x10 = y
  generalize hz : val_main_v22 (F := Ideal) x0 x2 x4 x7 x8 x9 = z
  pointwise
  subst hy hz
  simp only [ref_proj, ref_summ]

/-- The scores of the second sequence, against the first sequence's summary. -/
theorem ref_score_hi (r : Fin 10000) : val_main_v46 (F := Ideal) x0 x1 x2 x4 x7 x8 x9 x10 x11 (ix2 0 r)
    = scoreOuter (actOf x1 x2 x7 x8 x9) (fun d e => x10 (ix3 0 d e)) (summ (fun r => x4 (ix2 0 r)) (actOf x0 x2 x7 x8 x9)) (x11 (ix1 0)) r := by
  have h : val_main_v42 (F := Ideal) x1 x2 x7 x8 x9 x10 = val_main_v36 (F := Ideal) x1 x2 x7 x8 x9 x10 := rfl
  unfold scoreOuter val_main_v46 val_main_v45 val_main_v44 val_main_v43 val_main_v34 val_main_v33
  rw [h]
  generalize hy : val_main_v36 (F := Ideal) x1 x2 x7 x8 x9 x10 = y
  generalize hz : val_main_v22 (F := Ideal) x0 x2 x4 x7 x8 x9 = z
  pointwise
  subst hy hz
  simp only [ref_proj, ref_summ]

/-- The first 10000 entries of the reference's result. -/
theorem ref_lo (j : Fin 10000) :
    val_main_v49 (F := Ideal) x0 x1 x2 x4 x5 x6 x7 x8 x9 x10 x11 (ix2 0 ⟨j.val, by have := j.isLt; omega⟩)
      = scoreOuter (actOf x0 x2 x7 x8 x9) (fun d e => x10 (ix3 0 d e)) (summ (fun r => x4 (ix2 0 r)) (actOf x0 x2 x7 x8 x9)) (x11 (ix1 0)) j
        + x5 (ix2 0 j) := by
  rw [← ref_score_lo]
  unfold val_main_v49 val_main_v47
  generalize val_main_v40 (F := Ideal) x0 x2 x4 x7 x8 x9 x10 x11 = y
  generalize val_main_v48 (F := Ideal) x0 x1 x2 x4 x6 x7 x8 x9 x10 x11 = z
  pointwise

/-- The last 10000 entries of the reference's result. -/
theorem ref_hi (j : Fin 10000) :
    val_main_v49 (F := Ideal) x0 x1 x2 x4 x5 x6 x7 x8 x9 x10 x11 (ix2 0 ⟨10000 + j.val, by have := j.isLt; omega⟩)
      = scoreOuter (actOf x1 x2 x7 x8 x9) (fun d e => x10 (ix3 0 d e)) (summ (fun r => x4 (ix2 0 r)) (actOf x0 x2 x7 x8 x9)) (x11 (ix1 0)) j
        + x6 (ix2 0 j) := by
  rw [← ref_score_hi]
  unfold val_main_v49 val_main_v48
  generalize val_main_v46 (F := Ideal) x0 x1 x2 x4 x7 x8 x9 x10 x11 = y
  generalize val_main_v47 (F := Ideal) x0 x2 x4 x5 x7 x8 x9 x10 x11 = z
  pointwise

end Cert.ReferenceIdeal.Hand

end
-- ==== Proof.Hand.Finite.lean ====
/- What the precondition says of the arguments' entries: the two sequences, the adjacency, the features' weights, the
   bias, the slope and the bilinear weights are real. -/
module

public import proofs.«01_k».proof.Pre_finite
public import proofs.«01_k».proof.Proof.Hand.Maths
public import Idealize.ShloMosaic.Lib.Pipeline.ValueKit
public import Idealize.ShloMosaic.Lib.ReduceAll
public import Idealize.ShloMosaic.Lib.Claim

@[expose] public section

set_option maxRecDepth 16384

noncomputable section

namespace Cert.Pre_finite.Hand

open Cert.Pre_finite Cert.Maths
open Idealize.ShloMosaic Idealize.ShloMosaic.Tactic

/-- The shape relations that the precondition's operations take. -/
instance facts : Facts where
  bcast_S_S1x10000x128 := by decide
  reducesTo_S1x10000x128_S_d0_1_2 := by decide
  h_S_ := by decide
  bcast_S_S1x10000x10000 := by decide
  reducesTo_S1x10000x10000_S_d0_1_2 := by decide
  bcast_S_S64x128 := by decide
  reducesTo_S64x128_S_d0_1 := by decide
  bcast_S_S64 := by decide
  reducesTo_S64_S_d0 := by decide
  bcast_S_S1x64x64 := by decide
  reducesTo_S1x64x64_S_d0_1_2 := by decide

/-- A number whose size compares below the word of infinity is real. -/
theorem real_of_lt (x : EReal) (h : FloatOps.cmpf (F := Ideal) (φ := .f32) .olt (max x (-x)) (Ideal.ofBits .f32 0x7F800000#32) = 1#1) : IsReal x := by
  have hw : Ideal.ofBits .f32 0x7F800000#32 = ⊤ := by simp [Ideal.ofBits, Ideal.ieee]
  rw [hw] at h
  refine isReal_of_abs_lt ?_
  by_contra hn
  have h0 : BitVec.ofBool (decide (max x (-x) < ⊤)) = 1#1 := h
  rw [decide_eq_false hn] at h0
  exact absurd h0 (by decide)

/-- An array every entry of which is below infinity in size: every entry is real. -/
theorem real_of_all {s : Shape} {axes : List (Fin s.rank)} (x : FVec Ideal s .f32)
    (hb : S_.BroadcastsInDim s (![] : Fin 0 → Fin s.rank)) (hr : s.ReducesTo axes S_) (hu : 0 < S_.numel)
    (h : Host.reduce IntOp.andi (cmpf .olt (Host.absf x) (broadcastInDim s ![] hb (constant S_ .f32 0x7F800000#32))) (constantI S_ 1 1#1) hr
      hu ix0 = 1#1) (i : s.Idx) : IsReal (x i) :=
  real_of_lt (x i) (Host.reduce_andi_all _ _ _ _ _ h i)

/-- The precondition, decoded. -/
theorem decode (a0 a1 : FVec Ideal S1x10000x128 .f32) (a2 : FVec Ideal S1x10000x10000 .f32) (a3 : IVec S_ 32) (a4 a5 a6 : FVec Ideal S1x10000 .f32)
    (a7 : FVec Ideal S64x128 .f32) (a8 : FVec Ideal S64 .f32) (a9 : FVec Ideal S_ .f32) (a10 : FVec Ideal S1x64x64 .f32) (a11 : FVec Ideal S1 .f32)
    (h : fn (F := Ideal) a0 a1 a2 a3 a4 a5 a6 a7 a8 a9 a10 a11 = fun _ => 1#1) :
    (∀ i, IsReal (a0 i)) ∧ (∀ i, IsReal (a1 i)) ∧ (∀ i, IsReal (a2 i)) ∧ (∀ i, IsReal (a7 i)) ∧ (∀ i, IsReal (a8 i)) ∧ IsReal (a9 ix0)
      ∧ (∀ i, IsReal (a10 i)) := by
  have h0 := congrFun h ix0
  obtain ⟨h1, h10⟩ := IntOp.andi_eq_one.1 h0
  obtain ⟨h2, h9⟩ := IntOp.andi_eq_one.1 h1
  obtain ⟨h3, h8⟩ := IntOp.andi_eq_one.1 h2
  obtain ⟨h4, h7⟩ := IntOp.andi_eq_one.1 h3
  obtain ⟨h5, h6⟩ := IntOp.andi_eq_one.1 h4
  obtain ⟨ha, hb⟩ := IntOp.andi_eq_one.1 h5
  exact ⟨real_of_all a0 _ _ _ ha, real_of_all a1 _ _ _ hb, real_of_all a2 _ _ _ h6, real_of_all a7 _ _ _ h7, real_of_all a8 _ _ _ h8,
    real_of_lt (a9 ix0) h9, real_of_all a10 _ _ _ h10⟩

end Cert.Pre_finite.Hand

end
-- ==== Proof.Hand.Equation.lean ====
/- The equation: under the precondition the kernel's result and the reference's are one array. -/
module

public import proofs.«01_k».proof.Proof.Hand.KernelValue
public import proofs.«01_k».proof.Proof.Hand.RefValue
public import proofs.«01_k».proof.Proof.Hand.Finite

@[expose] public section

set_option maxRecDepth 16384

noncomputable section

namespace Cert.KernelIdeal.Hand

open Cert.KernelIdeal Cert.KernelIdeal.Gen Cert.Maths
open Idealize.ShloMosaic Idealize.ShloMosaic.TcCoe

variable (m : (ℓ : Loc nD τ sig) → Buf (Elt Ideal) ℓ)

/-- The reference's result as a function of the kernel's arguments. -/
def refResult (c : Dev nD) : Buf (Elt Ideal) ((c : Thread nD τ).loc main_v11) :=
  Cert.ReferenceIdeal.Read.val_main_v49 (F := Ideal) (m ((c : Thread nD τ).loc main_arg0)) (m ((c : Thread nD τ).loc main_arg1))
    (m ((c : Thread nD τ).loc main_arg2)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

/-- The precondition as a statement about the arguments of one device. -/
abbrev FiniteArgs (c : Dev nD) : Prop :=
  Cert.Pre_finite.fn (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10))
    (m ((c : Thread nD τ).loc main_arg11)) = fun _ => 1#1

/-- Under the precondition the two orders of the bilinear score agree, for either sequence's activations. -/
theorem scores_agree (c : Dev nD) (h : FiniteArgs m c) (r : Fin 10000) :
    score (actA m c) (wBil m c) (summ (mask m c) (actA m c)) (bBil m c) r = scoreOuter (actA m c) (wBil m c) (summ (mask m c) (actA m c)) (bBil m c) r
    ∧ score (actB m c) (wBil m c) (summ (mask m c) (actA m c)) (bBil m c) r = scoreOuter (actB m c) (wBil m c) (summ (mask m c) (actA m c)) (bBil m c) r := by
  obtain ⟨h0, h1, h2, h7, h8, h9, h10⟩ := Cert.Pre_finite.Hand.decode _ _ _ _ _ _ _ _ _ _ _ _ h
  have hc : ∀ e, IsReal (summ (mask m c) (actA m c) e) := fun e => isReal_logistic _
  exact ⟨score_eq _ (isReal_act (fun r k => h0 _) (fun r j => h2 _) (fun d k => h7 _) (fun d => h8 _) h9) (fun d e => h10 _) hc r,
    score_eq _ (isReal_act (fun r k => h1 _) (fun r j => h2 _) (fun d k => h7 _) (fun d => h8 _) h9) (fun d e => h10 _) hc r⟩

/-- The two results agree at every entry. -/
theorem result_eq (c : Dev nD) (h : FiniteArgs m c) : refResult m c = result m c := by
  funext i
  obtain ⟨p, q, rfl⟩ : ∃ (p : Fin 1) (q : Fin 20000), i = ix2 p q :=
    ⟨i 0, i 1, funext fun a => match a with | ⟨0, _⟩ => rfl | ⟨1, _⟩ => rfl⟩
  obtain rfl : p = 0 := Subsingleton.elim _ _
  have hq := q.isLt
  by_cases hlt : q.val < 10000
  · have e : q = ⟨(⟨q.val, hlt⟩ : Fin 10000).val, by omega⟩ := rfl
    rw [e]
    refine (Cert.ReferenceIdeal.Hand.ref_lo _ _ _ _ _ _ _ _ _ _ _ ⟨q.val, hlt⟩).trans (Eq.trans ?_ (result_lo m c ⟨q.val, hlt⟩).symm)
    rw [(scores_agree m c h _).1]
    rfl
  · have e : q = ⟨10000 + (⟨q.val - 10000, by omega⟩ : Fin 10000).val, by show 10000 + (q.val - 10000) < 20000; omega⟩ :=
      Fin.ext (by show q.val = 10000 + (q.val - 10000); omega)
    rw [e]
    refine (Cert.ReferenceIdeal.Hand.ref_hi _ _ _ _ _ _ _ _ _ _ _ ⟨q.val - 10000, by omega⟩).trans
      (Eq.trans ?_ (result_hi m c ⟨q.val - 10000, by omega⟩).symm)
    rw [(scores_agree m c h _).2]
    rfl

end Cert.KernelIdeal.Hand

end
-- ==== Proof.Hand.Claims.lean ====
/- Each claim of the certificate, from the runs and the equation. -/
module

public import proofs.«01_k».proof.Defs
public import proofs.«01_k».proof.Proof.Hand.Same
public import proofs.«01_k».proof.Proof.Gen.ReferenceIdeal.Run
public import proofs.«01_k».proof.Proof.Hand.Equation
public import Idealize.ShloMosaic.Lib.Quiescent

@[expose] public section

noncomputable section

namespace Cert.Proof

open Idealize.ShloMosaic Idealize.SL.Sem

/-- The kernel, at any float values' bits, ends with its arguments unchanged and every counter at zero. -/
theorem frame_kernel : Cert.quiescent_Kernel := fun m ρ _ =>
  run_same _ _ (Cert.KernelIdeal.Hand.frame (F := Bits) m ρ)

/-- So does its text read at the extended reals. -/
theorem frame_ideal : Cert.quiescent_KernelIdeal := fun m ρ _ => Cert.KernelIdeal.Hand.frame m ρ

/-- In particular from memories that meet the precondition. -/
theorem frame_ideal_pre : Cert.quiescent_KernelIdeal_pre_finite := fun m ρ _ => Cert.KernelIdeal.Hand.frame m ρ

/-- So does the reference, which has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- In particular from memories that meet the precondition. -/
theorem frame_reference_pre : Cert.quiescent_ReferenceIdeal_pre_finite := fun m ρ _ => frame_reference m ρ trivial

/-- From equal finite arguments the kernel and the reference end with the same result. -/
theorem same_result : Cert.algebraic_KernelIdeal_ReferenceIdeal_pre_finite := by
  intro m ρ m' ρ' hpre hagree
  refine ⟨_, Cert.KernelIdeal.Hand.run (F := Ideal) m ρ, ?_⟩
  refine (θ_run Cert.ReferenceIdeal.defs _ _).mono (fun _ h c => ⟨(h c).1.trans ?_, (h c).2⟩) (Cert.ReferenceIdeal.Value.run (F := Ideal) m' ρ')
  obtain ⟨e0, e1, e2, e3, e4, e5, e6, e7, e8, e9, e10, e11⟩ := hagree c
  refine Eq.trans ?_ (Cert.KernelIdeal.Hand.result_eq m c (hpre c))
  rw [Cert.ReferenceIdeal.Read.val_main_v49_eq, e0, e1, e2, e4, e5, e6, e7, e8, e9, e10, e11]
  rfl

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Hand.Claims

@[expose] public section

noncomputable section

namespace Cert.Proof

theorem claim : Cert.Claim :=
  ⟨Cert.Kernel.Gen.facts, Cert.KernelIdeal.Gen.facts, Cert.ReferenceIdeal.Gen.facts, Cert.Pre_finite.Hand.facts,
    frame_kernel, frame_ideal, frame_ideal_pre, frame_reference, frame_reference_pre, trivial, same_result⟩

end Cert.Proof

end
